-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x1024 : Shape := ⟨3, ![4, 32, 1024]⟩
abbrev S4x64x512 : Shape := ⟨3, ![4, 64, 512]⟩
abbrev S512x1024 : Shape := ⟨2, ![512, 1024]⟩
abbrev S512 : Shape := ⟨1, ![512]⟩
abbrev S1x512 : Shape := ⟨2, ![1, 512]⟩
abbrev S33x4x512 : Shape := ⟨3, ![33, 4, 512]⟩
abbrev S32x4x512 : Shape := ⟨3, ![32, 4, 512]⟩
abbrev S512x512 : Shape := ⟨2, ![512, 512]⟩
abbrev S128x1024 : Shape := ⟨2, ![128, 1024]⟩
abbrev S128x512 : Shape := ⟨2, ![128, 512]⟩
abbrev S32x512 : Shape := ⟨2, ![32, 512]⟩
abbrev S32x1x512 : Shape := ⟨3, ![32, 1, 512]⟩
abbrev S1x4x512 : Shape := ⟨3, ![1, 4, 512]⟩
abbrev S4x64 : Shape := ⟨2, ![4, 64]⟩
abbrev S2x64x512 : Shape := ⟨3, ![2, 64, 512]⟩
abbrev S4x512 : Shape := ⟨2, ![4, 512]⟩
abbrev S2x512 : Shape := ⟨2, ![2, 512]⟩
abbrev S2x1x512 : Shape := ⟨3, ![2, 1, 512]⟩
abbrev S2x64 : Shape := ⟨2, ![2, 64]⟩
abbrev S2x64x1 : Shape := ⟨3, ![2, 64, 1]⟩
abbrev S4 : Shape := ⟨1, ![4]⟩
abbrev S4x1 : Shape := ⟨2, ![4, 1]⟩
abbrev S4x64x1 : Shape := ⟨3, ![4, 64, 1]⟩

abbrev nBuf : Space → Nat
  | .hbm => 18
  | .vmem => 20
  | .smem => 0
  | _ => 0

abbrev bufTy : (tb : Table) → Fin (tcTables nBuf tb) → BufTy
  | .hbm, ⟨0, _⟩ => ⟨S4x32x1024, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S512x1024, .f32⟩
  | .hbm, ⟨9, _⟩ => ⟨S512, .f32⟩
  | .hbm, ⟨10, _⟩ => ⟨S512x1024, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S4x64x512, .f32⟩
  | .local _ .vmem, ⟨0, _⟩ => ⟨S4x32x1024, .f32⟩
  | .local _ .vmem, ⟨1, _⟩ => ⟨S4x64x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4x64x512, .f32⟩
  | .local _ .vmem, ⟨13, _⟩ => ⟨S33x4x512, .f32⟩
  | .local _ .vmem, ⟨14, _⟩ => ⟨S32x4x512, .f32⟩
  | .local _ .vmem, ⟨15, _⟩ => ⟨S32x4x512, .f32⟩
  | .local _ .vmem, ⟨16, _⟩ => ⟨S32x4x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | _, _ => ⟨S4x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v134 : BitVec 32 := Scalar.addi c0_i32 c32_i32
  let c1_i32 : BitVec 32 := 1#32
  ⟨c0_i32, v134, c1_i32⟩
def k0_off1 (k0_t1 : Fin k0_t1_loop.trips) : Fin 3 → Nat :=
  let c0_i32 : BitVec 32 := 0#32
  let c1_i32 : BitVec 32 := 1#32
  let arg20 : BitVec 32 := Scf.iv c0_i32 c1_i32 k0_t1
  let v142 : Index := Scalar.indexCast arg20
  let c0_111 : Index := 0#32
  let c0_112 : Index := 0#32
  ![v142.toNat, 0, 0]
def k0_off2 (k0_t1 : Fin k0_t1_loop.trips) : Fin 3 → Nat :=
  let c0_i32 : BitVec 32 := 0#32
  let c1_i32 : BitVec 32 := 1#32
  let arg20 : BitVec 32 := Scf.iv c0_i32 c1_i32 k0_t1
  let c1_i32_117 : BitVec 32 := 1#32
  let v151 : BitVec 32 := Scalar.addi arg20 c1_i32_117
  let v152 : Index := Scalar.indexCast v151
  let c0_118 : Index := 0#32
  let c0_119 : Index := 0#32
  ![v152.toNat, 0, 0]
abbrev stage0_0 : Fin 1 → Memref sig .tc .vmem S4x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S4x32x1024 : Shape := ⟨3, ![4, 32, 1024]⟩
abbrev S4x64x512 : Shape := ⟨3, ![4, 64, 512]⟩
abbrev S512x1024 : Shape := ⟨2, ![512, 1024]⟩
abbrev S512 : Shape := ⟨1, ![512]⟩
abbrev S_ : Shape := ⟨0, ![]⟩
abbrev S4x64 : Shape := ⟨2, ![4, 64]⟩
abbrev S4x1x1024 : Shape := ⟨3, ![4, 1, 1024]⟩
abbrev S4x1024 : Shape := ⟨2, ![4, 1024]⟩
abbrev S1024x512 : Shape := ⟨2, ![1024, 512]⟩
abbrev S4x512 : Shape := ⟨2, ![4, 512]⟩
abbrev S1x512 : Shape := ⟨2, ![1, 512]⟩
abbrev S4 : Shape := ⟨1, ![4]⟩
abbrev S4x1 : Shape := ⟨2, ![4, 1]⟩
abbrev S4x1x512 : Shape := ⟨3, ![4, 1, 512]⟩
abbrev S4x64x1024 : Shape := ⟨3, ![4, 64, 1024]⟩
abbrev S1x1x512 : Shape := ⟨3, ![1, 1, 512]⟩
abbrev S4x64x1 : Shape := ⟨3, ![4, 64, 1]⟩

abbrev nBuf : Space → Nat
  | .hbm => 183
  | .vmem => 0
  | .smem => 0
  | _ => 0

abbrev hbmTy0_0 (i : Nat) : BufTy := match i % 128 with
  | 0 => ⟨S4x32x1024, .f32⟩
  | 1 => ⟨S4x64x512, .f32⟩
  | 2 => ⟨S512x1024, .f32⟩
  | 3 => ⟨S512, .f32⟩
  | 4 => ⟨S512x1024, .f32⟩
  | 5 => ⟨S512, .f32⟩
  | 6 => ⟨S512x1024, .f32⟩
  | 7 => ⟨S512, .f32⟩
  | 8 => ⟨S512x1024, .f32⟩
  | 9 => ⟨S512, .f32⟩
  | 10 => ⟨S512x1024, .f32⟩
  | 11 => ⟨S512, .f32⟩
  | 12 => ⟨S_, .f32⟩
  | 13 => ⟨S4x64, .f32⟩
  | 14 => ⟨S_, .i32⟩
  | 15 => ⟨S_, .i32⟩
  | 16 => ⟨S4x32x1024, .f32⟩
  | 17 => ⟨S512x1024, .f32⟩
  | 18 => ⟨S512, .f32⟩
  | 19 => ⟨S512x1024, .f32⟩
  | 20 => ⟨S512, .f32⟩
  | 21 => ⟨S512x1024, .f32⟩
  | 22 => ⟨S512, .f32⟩
  | 23 => ⟨S512x1024, .f32⟩
  | 24 => ⟨S512, .f32⟩
  | 25 => ⟨S512x1024, .f32⟩
  | 26 => ⟨S512, .f32⟩
  | 27 => ⟨S_, .i32⟩
  | 28 => ⟨S_, .i32⟩
  | 29 => ⟨S4x64x512, .f32⟩
  | 30 => ⟨S4x64, .f32⟩
  | 31 => ⟨S4x64, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S4x1x1024, .f32⟩
  | 59 => ⟨S4x1024, .f32⟩
  | 60 => ⟨S1024x512, .f32⟩
  | 61 => ⟨S4x512, .f32⟩
  | 62 => ⟨S1x512, .f32⟩
  | 63 => ⟨S4x512, .f32⟩
  | 64 => ⟨S4x512, .f32⟩
  | 65 => ⟨S4x64, .f32⟩
  | 66 => ⟨S_, .f32⟩
  | 67 => ⟨S4x64, .f32⟩
  | 68 => ⟨S4x64, .f32⟩
  | 69 => ⟨S4x64, .f32⟩
  | 70 => ⟨S_, .f32⟩
  | 71 => ⟨S4x64, .f32⟩
  | 72 => ⟨S4x64, .f32⟩
  | 73 => ⟨S4x64, .f32⟩
  | 74 => ⟨S1024x512, .f32⟩
  | 75 => ⟨S4x512, .f32⟩
  | 76 => ⟨S1x512, .f32⟩
  | 77 => ⟨S4x512, .f32⟩
  | 78 => ⟨S4x512, .f32⟩
  | 79 => ⟨S4x64, .f32⟩
  | 80 => ⟨S_, .f32⟩
  | 81 => ⟨S4, .f32⟩
  | 82 => ⟨S_, .f32⟩
  | 83 => ⟨S4, .f32⟩
  | 84 => ⟨S4, .f32⟩
  | 85 => ⟨S4x1, .f32⟩
  | 86 => ⟨S4x64, .f32⟩
  | 87 => ⟨S4x64, .f32⟩
  | 88 => ⟨S4x64, .f32⟩
  | 89 => ⟨S_, .f32⟩
  | 90 => ⟨S4, .f32⟩
  | 91 => ⟨S4x1, .f32⟩
  | 92 => ⟨S4x64, .f32⟩
  | 93 => ⟨S4x64, .f32⟩
  | 94 => ⟨S4x1x512, .f32⟩
  | 95 => ⟨S4x64x512, .f32⟩
  | 96 => ⟨S4x64x1024, .f32⟩
  | 97 => ⟨S1024x512, .f32⟩
  | 98 => ⟨S4x64x512, .f32⟩
  | 99 => ⟨S1x1x512, .f32⟩
  | 100 => ⟨S4x64x512, .f32⟩
  | 101 => ⟨S4x64x512, .f32⟩
  | 102 => ⟨S4x64x512, .f32⟩
  | 103 => ⟨S4x64x512, .f32⟩
  | 104 => ⟨S_, .f32⟩
  | 105 => ⟨S4x64x512, .f32⟩
  | 106 => ⟨S4x64x512, .f32⟩
  | 107 => ⟨S_, .f32⟩
  | 108 => ⟨S4x64x512, .f32⟩
  | 109 => ⟨S4x64x512, .f32⟩
  | 110 => ⟨S1024x512, .f32⟩
  | 111 => ⟨S4x64x512, .f32⟩
  | 112 => ⟨S1x1x512, .f32⟩
  | 113 => ⟨S4x64x512, .f32⟩
  | 114 => ⟨S4x64x512, .f32⟩
  | 115 => ⟨S4x64x512, .f32⟩
  | 116 => ⟨S4x64x512, .f32⟩
  | 117 => ⟨S_, .f32⟩
  | 118 => ⟨S4x64x512, .f32⟩
  | 119 => ⟨S4x64x512, .f32⟩
  | 120 => ⟨S_, .f32⟩
  | 121 => ⟨S4x64x512, .f32⟩
  | 122 => ⟨S4x64x512, .f32⟩
  | 123 => ⟨S4x64x512, .f32⟩
  | 124 => ⟨S4x64x1024, .f32⟩
  | 125 => ⟨S1024x512, .f32⟩
  | 126 => ⟨S4x64x512, .f32⟩
  | 127 => ⟨S1x1x512, .f32⟩
  | _ => ⟨S4x32x1024, .f32⟩

abbrev hbmTy0_1 (i : Nat) : BufTy := match i % 128 with
  | 0 => ⟨S4x64x512, .f32⟩
  | 1 => ⟨S4x64x512, .f32⟩
  | 2 => ⟨S4x64x512, .f32⟩
  | 3 => ⟨S_, .f32⟩
  | 4 => ⟨S4x64x512, .f32⟩
  | 5 => ⟨S4x64x512, .f32⟩
  | 6 => ⟨S4x64x512, .f32⟩
  | 7 => ⟨S4x64x512, .f32⟩
  | 8 => ⟨S4x64x512, .f32⟩
  | 9 => ⟨S4x64x1, .f32⟩
  | 10 => ⟨S_, .f32⟩
  | 11 => ⟨S4x64x1, .f32⟩
  | 12 => ⟨S4x64x1, .f32⟩
  | 13 => ⟨S_, .f32⟩
  | 14 => ⟨S4x64x1, .f32⟩
  | 15 => ⟨S4x64x1, .f32⟩
  | 16 => ⟨S4x64x512, .f32⟩
  | 17 => ⟨S4x64x512, .f32⟩
  | 18 => ⟨S_, .f32⟩
  | 19 => ⟨S4x64x1, .f32⟩
  | 20 => ⟨S4x64x1, .f32⟩
  | 21 => ⟨S4x64x512, .f32⟩
  | 22 => ⟨S4x64x512, .f32⟩
  | 23 => ⟨S4x64x512, .f32⟩
  | 24 => ⟨S_, .f32⟩
  | 25 => ⟨S4x64, .f32⟩
  | 26 => ⟨S4x64, .i1⟩
  | 27 => ⟨S4x64x1, .i1⟩
  | 28 => ⟨S4x64x512, .i1⟩
  | 29 => ⟨S4x64x512, .f32⟩
  | 30 => ⟨S_, .f32⟩
  | 31 => ⟨S4x64, .f32⟩
  | 32 => ⟨S4x64, .f32⟩
  | 33 => ⟨S4x64, .f32⟩
  | 34 => ⟨S4x64x512, .f32⟩
  | 35 => ⟨S_, .f32⟩
  | 36 => ⟨S4x64, .f32⟩
  | 37 => ⟨S4x64x1, .f32⟩
  | 38 => ⟨S4x64x1, .f32⟩
  | 39 => ⟨S_, .f32⟩
  | 40 => ⟨S4x64x1, .f32⟩
  | 41 => ⟨S4x64x1, .f32⟩
  | 42 => ⟨S4x64x512, .f32⟩
  | 43 => ⟨S4x64x512, .f32⟩
  | 44 => ⟨S_, .f32⟩
  | 45 => ⟨S4x64, .f32⟩
  | 46 => ⟨S4x64, .f32⟩
  | 47 => ⟨S_, .f32⟩
  | 48 => ⟨S4x64, .f32⟩
  | 49 => ⟨S4x64, .f32⟩
  | 50 => ⟨S_, .f32⟩
  | 51 => ⟨S4x64, .f32⟩
  | 52 => ⟨S4x64, .f32⟩
  | 53 => ⟨S_, .i32⟩
  | 54 => ⟨S_, .i32⟩
  | _ => ⟨S4x32x1024, .f32⟩

abbrev hbmTy (i : Nat) : BufTy := match i / 128 with
  | 0 => hbmTy0_0 i
  | 1 => hbmTy0_1 i
  | _ => ⟨S4x32x1024, .f32⟩

abbrev bufTy : (tb : Table) → Fin (tcTables nBuf tb) → BufTy
  | .hbm, ⟨i, _⟩ => hbmTy i
  | _, _ => ⟨S4x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_c_0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v1_4 : Ref sig .tc := ⟨.hbm, 20, rfl⟩
abbrev main_v1_5 : Ref sig .tc := ⟨.hbm, 21, rfl⟩
abbrev main_v1_6 : Ref sig .tc := ⟨.hbm, 22, rfl⟩
abbrev main_v1_7 : Ref sig .tc := ⟨.hbm, 23, rfl⟩
abbrev main_v1_8 : Ref sig .tc := ⟨.hbm, 24, rfl⟩
abbrev main_v1_9 : Ref sig .tc := ⟨.hbm, 25, rfl⟩
abbrev main_v1_10 : Ref sig .tc := ⟨.hbm, 26, rfl⟩
abbrev main_v1_11 : Ref sig .tc := ⟨.hbm, 27, rfl⟩
abbrev main_v1_12 : Ref sig .tc := ⟨.hbm, 28, rfl⟩
abbrev main_v1_13 : Ref sig .tc := ⟨.hbm, 29, rfl⟩
abbrev main_v1_14 : Ref sig .tc := ⟨.hbm, 30, rfl⟩
abbrev main_v1_15 : Ref sig .tc := ⟨.hbm, 31, rfl⟩
abbrev main_while0c_c_16 : Ref sig .tc := ⟨.hbm, 32, rfl⟩
abbrev main_while0c_v2 : Ref sig .tc := ⟨.hbm, 33, rfl⟩
abbrev main_while0b_c_16 : Ref sig .tc := ⟨.hbm, 34, rfl⟩
abbrev main_while0b_v2 : Ref sig .tc := ⟨.hbm, 35, rfl⟩
abbrev main_while0b_v3 : Ref sig .tc := ⟨.hbm, 36, rfl⟩
abbrev main_while0b_c_17 : Ref sig .tc := ⟨.hbm, 37, rfl⟩
abbrev main_while0b_c_18 : Ref sig .tc := ⟨.hbm, 38, rfl⟩
abbrev main_while0b_v4 : Ref sig .tc := ⟨.hbm, 39, rfl⟩
abbrev main_while0b_c_19 : Ref sig .tc := ⟨.hbm, 40, rfl⟩
abbrev main_while0b_c_20 : Ref sig .tc := ⟨.hbm, 41, rfl⟩
abbrev main_while0b_v5 : Ref sig .tc := ⟨.hbm, 42, rfl⟩
abbrev main_while0b_c_21 : Ref sig .tc := ⟨.hbm, 43, rfl⟩
abbrev main_while0b_v6 : Ref sig .tc := ⟨.hbm, 44, rfl⟩
abbrev main_while0b_c_22 : Ref sig .tc := ⟨.hbm, 45, rfl⟩
abbrev main_while0b_v7 : Ref sig .tc := ⟨.hbm, 46, rfl⟩
abbrev main_while0b_c_23 : Ref sig .tc := ⟨.hbm, 47, rfl⟩
abbrev main_while0b_v8 : Ref sig .tc := ⟨.hbm, 48, rfl⟩
abbrev main_while0b_v9 : Ref sig .tc := ⟨.hbm, 49, rfl⟩
abbrev main_while0b_c_24 : Ref sig .tc := ⟨.hbm, 50, rfl⟩
abbrev main_while0b_c_25 : Ref sig .tc := ⟨.hbm, 51, rfl⟩
abbrev main_while0b_v10 : Ref sig .tc := ⟨.hbm, 52, rfl⟩
abbrev main_while0b_c_26 : Ref sig .tc := ⟨.hbm, 53, rfl⟩
abbrev main_while0b_c_27 : Ref sig .tc := ⟨.hbm, 54, rfl⟩
abbrev main_while0b_v11 : Ref sig .tc := ⟨.hbm, 55, rfl⟩
abbrev main_while0b_c_28 : Ref sig .tc := ⟨.hbm, 56, rfl⟩
abbrev main_while0b_v12 : Ref sig .tc := ⟨.hbm, 57, rfl⟩
abbrev main_while0b_v13 : Ref sig .tc := ⟨.hbm, 58, rfl⟩
abbrev main_while0b_v14 : Ref sig .tc := ⟨.hbm, 59, rfl⟩
abbrev main_while0b_v15 : Ref sig .tc := ⟨.hbm, 60, rfl⟩
abbrev main_while0b_v16 : Ref sig .tc := ⟨.hbm, 61, rfl⟩
abbrev main_while0b_v17 : Ref sig .tc := ⟨.hbm, 62, rfl⟩
abbrev main_while0b_v18 : Ref sig .tc := ⟨.hbm, 63, rfl⟩
abbrev main_while0b_v19 : Ref sig .tc := ⟨.hbm, 64, rfl⟩
abbrev main_while0b_v20 : Ref sig .tc := ⟨.hbm, 65, rfl⟩
abbrev main_while0b_cst_29 : Ref sig .tc := ⟨.hbm, 66, rfl⟩
abbrev main_while0b_v21 : Ref sig .tc := ⟨.hbm, 67, rfl⟩
abbrev main_while0b_v22 : Ref sig .tc := ⟨.hbm, 68, rfl⟩
abbrev main_while0b_v23 : Ref sig .tc := ⟨.hbm, 69, rfl⟩
abbrev main_while0b_cst_30 : Ref sig .tc := ⟨.hbm, 70, rfl⟩
abbrev main_while0b_v24 : Ref sig .tc := ⟨.hbm, 71, rfl⟩
abbrev main_while0b_v25 : Ref sig .tc := ⟨.hbm, 72, rfl⟩
abbrev main_while0b_v26 : Ref sig .tc := ⟨.hbm, 73, rfl⟩
abbrev main_while0b_v27 : Ref sig .tc := ⟨.hbm, 74, rfl⟩
abbrev main_while0b_v28 : Ref sig .tc := ⟨.hbm, 75, rfl⟩
abbrev main_while0b_v29 : Ref sig .tc := ⟨.hbm, 76, rfl⟩
abbrev main_while0b_v30 : Ref sig .tc := ⟨.hbm, 77, rfl⟩
abbrev main_while0b_v31 : Ref sig .tc := ⟨.hbm, 78, rfl⟩
abbrev main_while0b_v32 : Ref sig .tc := ⟨.hbm, 79, rfl⟩
abbrev main_while0b_cst_31 : Ref sig .tc := ⟨.hbm, 80, rfl⟩
abbrev main_while0b_v33 : Ref sig .tc := ⟨.hbm, 81, rfl⟩
abbrev main_while0b_cst_32 : Ref sig .tc := ⟨.hbm, 82, rfl⟩
abbrev main_while0b_v34 : Ref sig .tc := ⟨.hbm, 83, rfl⟩
abbrev main_while0b_v35 : Ref sig .tc := ⟨.hbm, 84, rfl⟩
abbrev main_while0b_v36 : Ref sig .tc := ⟨.hbm, 85, rfl⟩
abbrev main_while0b_v37 : Ref sig .tc := ⟨.hbm, 86, rfl⟩
abbrev main_while0b_v38 : Ref sig .tc := ⟨.hbm, 87, rfl⟩
abbrev main_while0b_v39 : Ref sig .tc := ⟨.hbm, 88, rfl⟩
abbrev main_while0b_cst_33 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_cst_34 : Ref sig .tc := ⟨.hbm, 104, rfl⟩
abbrev main_while0b_v54 : Ref sig .tc := ⟨.hbm, 105, rfl⟩
abbrev main_while0b_v55 : Ref sig .tc := ⟨.hbm, 106, rfl⟩
abbrev main_while0b_cst_35 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_cst_36 : Ref sig .tc := ⟨.hbm, 117, rfl⟩
abbrev main_while0b_v65 : Ref sig .tc := ⟨.hbm, 118, rfl⟩
abbrev main_while0b_v66 : Ref sig .tc := ⟨.hbm, 119, rfl⟩
abbrev main_while0b_cst_37 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_cst_38 : Ref sig .tc := ⟨.hbm, 131, rfl⟩
abbrev main_while0b_v77 : Ref sig .tc := ⟨.hbm, 132, rfl⟩
abbrev main_while0b_v78 : Ref sig .tc := ⟨.hbm, 133, rfl⟩
abbrev main_while0b_v79 : Ref sig .tc := ⟨.hbm, 134, rfl⟩
abbrev main_while0b_v80 : Ref sig .tc := ⟨.hbm, 135, rfl⟩
abbrev main_while0b_v81 : Ref sig .tc := ⟨.hbm, 136, rfl⟩
abbrev main_while0b_v82 : Ref sig .tc := ⟨.hbm, 137, rfl⟩
abbrev main_while0b_cst_39 : Ref sig .tc := ⟨.hbm, 138, rfl⟩
abbrev main_while0b_v83 : Ref sig .tc := ⟨.hbm, 139, rfl⟩
abbrev main_while0b_v84 : Ref sig .tc := ⟨.hbm, 140, rfl⟩
abbrev main_while0b_cst_40 : Ref sig .tc := ⟨.hbm, 141, rfl⟩
abbrev main_while0b_v85 : Ref sig .tc := ⟨.hbm, 142, rfl⟩
abbrev main_while0b_v86 : Ref sig .tc := ⟨.hbm, 143, rfl⟩
abbrev main_while0b_v87 : Ref sig .tc := ⟨.hbm, 144, rfl⟩
abbrev main_while0b_v88 : Ref sig .tc := ⟨.hbm, 145, rfl⟩
abbrev main_while0b_cst_41 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_cst_42 : Ref sig .tc := ⟨.hbm, 152, rfl⟩
abbrev main_while0b_v94 : Ref sig .tc := ⟨.hbm, 153, rfl⟩
abbrev main_while0b_v95 : Ref sig .tc := ⟨.hbm, 154, rfl⟩
abbrev main_while0b_v96 : Ref sig .tc := ⟨.hbm, 155, rfl⟩
abbrev main_while0b_call0_v0 : Ref sig .tc := ⟨.hbm, 156, rfl⟩
abbrev main_while0b_v97 : Ref sig .tc := ⟨.hbm, 157, rfl⟩
abbrev main_while0b_cst_43 : Ref sig .tc := ⟨.hbm, 158, rfl⟩
abbrev main_while0b_v98 : Ref sig .tc := ⟨.hbm, 159, rfl⟩
abbrev main_while0b_v99 : Ref sig .tc := ⟨.hbm, 160, rfl⟩
abbrev main_while0b_v100 : Ref sig .tc := ⟨.hbm, 161, rfl⟩
abbrev main_while0b_call2_v0 : Ref sig .tc := ⟨.hbm, 162, rfl⟩
abbrev main_while0b_call2_cst : Ref sig .tc := ⟨.hbm, 163, rfl⟩
abbrev main_while0b_call2_v1 : Ref sig .tc := ⟨.hbm, 164, rfl⟩
abbrev main_while0b_call2_v2 : Ref sig .tc := ⟨.hbm, 165, rfl⟩
abbrev main_while0b_v101 : Ref sig .tc := ⟨.hbm, 166, rfl⟩
abbrev main_while0b_cst_44 : Ref sig .tc := ⟨.hbm, 167, rfl⟩
abbrev main_while0b_v102 : Ref sig .tc := ⟨.hbm, 168, rfl⟩
abbrev main_while0b_v103 : Ref sig .tc := ⟨.hbm, 169, rfl⟩
abbrev main_while0b_v104 : Ref sig .tc := ⟨.hbm, 170, rfl⟩
abbrev main_while0b_v105 : Ref sig .tc := ⟨.hbm, 171, rfl⟩
abbrev main_while0b_cst_45 : Ref sig .tc := ⟨.hbm, 172, rfl⟩
abbrev main_while0b_v106 : Ref sig .tc := ⟨.hbm, 173, rfl⟩
abbrev main_while0b_v107 : Ref sig .tc := ⟨.hbm, 174, rfl⟩
abbrev main_while0b_cst_46 : Ref sig .tc := ⟨.hbm, 175, rfl⟩
abbrev main_while0b_v108 : Ref sig .tc := ⟨.hbm, 176, rfl⟩
abbrev main_while0b_v109 : Ref sig .tc := ⟨.hbm, 177, rfl⟩
abbrev main_while0b_cst_47 : Ref sig .tc := ⟨.hbm, 178, rfl⟩
abbrev main_while0b_v110 : Ref sig .tc := ⟨.hbm, 179, rfl⟩
abbrev main_while0b_v111 : Ref sig .tc := ⟨.hbm, 180, rfl⟩
abbrev main_while0b_c_48 : Ref sig .tc := ⟨.hbm, 181, rfl⟩
abbrev main_while0b_v112 : Ref sig .tc := ⟨.hbm, 182, rfl⟩

abbrev nD : Nat := 1
abbrev τ : Topo := Topo.v7x

variable {F : FTy → Type} [FloatOps F]

abbrev main_while0_count : Scf.Loop 32 := ⟨0#32, 32#32, 1#32⟩
-- ==== Proof.Trip.lean ====
module

public import proofs.«01_k».proof.Proof.Gen.KernelIdeal.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- What the loop carries from one time step to the next: the two batch halves' unnormalised memories, the two halves'
    inverse row norms, the two halves' similarities for the coming step, the usage and the age. -/
abbrev Carry (F : FTy → Type) : Type :=
  Vec F S2x64x512 .f32 × Vec F S2x64x512 .f32 × FVec F S2x64x1 .f32 × FVec F S2x64x1 .f32 × FVec F S2x64 .f32 × FVec F S2x64 .f32
    × FVec F S4x64 .f32 × FVec F S4x64 .f32

/-- Row `k` of a gate table. -/
def gateRow (X : Vec F S32x4x512 .f32) (k : Fin k0_t1_loop.trips) : Vec F S1x4x512 .f32 :=
  View.ld X (Rect.unit (s := S32x4x512) (k0_off1 k) S1x4x512.size (k0_off1_inb k))

/-- Row `k + 1` of the input table. -/
def nextRow (X : Vec F S33x4x512 .f32) (k : Fin k0_t1_loop.trips) : Vec F S1x4x512 .f32 :=
  View.ld X (Rect.unit (s := S33x4x512) (k0_off2 k) S1x4x512.size (k0_off2_inb k))

/-- One time step over the gate rows `xg`, `xu`, `xr`, the next step's input row `mi` and the transposed weights. -/
def tripOf (wg wu wr : Vec F S512x512 .f32) (mi xg xu xr : Vec F S1x4x512 .f32) (a : Carry F) : Carry F :=
  let ww := k0_pay30 (k0_pay17 a.2.2.2.2.1 a.2.2.2.2.2.1 a.2.2.2.2.2.2.1 a.2.2.2.2.2.2.2)
  (k0_pay24 wg wu wr a.1 a.2.2.1 (k0_pay18 xr) (k0_pay19 xg) (k0_pay20 xu) (k0_pay21 a.2.2.2.2.1 a.2.2.2.2.2.1 a.2.2.2.2.2.2.1 a.2.2.2.2.2.2.2) (k0_pay23 a.1) (constant S128x512 .f32 0x00000000#32),
   k0_pay5 wu a.2.1 a.2.2.2.1 (k0_pay27 (k0_pay14 xr)) (k0_pay28 (k0_pay12 xg)) (k0_pay29 (k0_pay13 xu)) ww (k0_pay33 wr a.2.1) (k0_pay34 wg a.2.1),
   k0_pay25 wg wu wr a.1 a.2.2.1 (k0_pay18 xr) (k0_pay19 xg) (k0_pay20 xu) (k0_pay21 a.2.2.2.2.1 a.2.2.2.2.2.1 a.2.2.2.2.2.2.1 a.2.2.2.2.2.2.2) (k0_pay23 a.1) (constant S128x512 .f32 0x00000000#32),
   k0_pay6 wu a.2.1 a.2.2.2.1 (k0_pay27 (k0_pay14 xr)) (k0_pay28 (k0_pay12 xg)) (k0_pay29 (k0_pay13 xu)) ww (k0_pay33 wr a.2.1) (k0_pay34 wg a.2.1),
   k0_pay26 wg wu wr a.1 a.2.2.1 (k0_pay18 xr) (k0_pay19 xg) (k0_pay20 xu) (k0_pay21 a.2.2.2.2.1 a.2.2.2.2.2.1 a.2.2.2.2.2.2.1 a.2.2.2.2.2.2.2) (k0_pay22 mi) (k0_pay23 a.1) (constant S128x512 .f32 0x00000000#32),
   k0_pay7 wu a.2.1 a.2.2.2.1 (k0_pay27 (k0_pay14 xr)) (k0_pay28 (k0_pay12 xg)) (k0_pay29 (k0_pay13 xu)) ww (k0_pay31 (k0_pay15 mi)) (k0_pay33 wr a.2.1) (k0_pay34 wg a.2.1),
   k0_pay8 a.2.2.2.2.2.2.1 (k0_pay16 a.2.2.2.2.1 a.2.2.2.2.2.1 a.2.2.2.2.2.2.1 a.2.2.2.2.2.2.2),
   k0_pay9 a.2.2.2.2.2.2.2)

/-- The carried values before trip `n`. -/
def carryAt (wg wu wr : Vec F S512x512 .f32) (mi : Vec F S33x4x512 .f32) (xg xu xr : Vec F S32x4x512 .f32) (init : Carry F) : ℕ → Carry F
  | 0 => init
  | n + 1 => if h : n < k0_t1_loop.trips then
      tripOf wg wu wr (nextRow mi ⟨n, h⟩) (gateRow xg ⟨n, h⟩) (gateRow xu ⟨n, h⟩) (gateRow xr ⟨n, h⟩) (carryAt wg wu wr mi xg xu xr init n)
    else carryAt wg wu wr mi xg xu xr init n

section Trip
variable (𝒱 : Variants) (c : Dev nD) (bd : Option 𝒱.V) (arg0 : Memref sig .tc .vmem S4x32x1024 .f32) (harg0 : arg0.IsWhole) (arg1 : Memref sig .tc .vmem S4x64x512 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S4x64x512 .f32) (harg12 : arg12.IsWhole) (arg13 : Memref sig .tc .vmem S33x4x512 .f32) (harg13 : arg13.IsWhole) (arg14 : Memref sig .tc .vmem S32x4x512 .f32) (harg14 : arg14.IsWhole) (arg15 : Memref sig .tc .vmem S32x4x512 .f32) (harg15 : arg15.IsWhole) (arg16 : Memref sig .tc .vmem S32x4x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (v115 v116 v117 : Vec F S512x512 .f32) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)

/-- What the run found for one trip is `tripOf` of the rows it loads. -/
theorem tripR_eq (k : Fin k0_t1_loop.trips) (acc : Carry F) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v115 v116 v117 X_arg13 X_arg14 X_arg15 X_arg16 k acc
      = tripOf v115 v116 v117 (nextRow (arg13.view.read (Elt F) X_arg13) k) (gateRow (arg14.view.read (Elt F) X_arg14) k)
          (gateRow (arg15.view.read (Elt F) X_arg15) k) (gateRow (arg16.view.read (Elt F) X_arg16) k) acc := by
  unfold tripR_k0_t1 trip_k0_t1
  rfl

/-- … so the loop's state before trip `n` is `carryAt`. -/
theorem st_eq (init : Carry F) (n : ℕ) (hn : n ≤ k0_t1_loop.trips) :
    st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v115 v116 v117 X_arg13 X_arg14 X_arg15 X_arg16 init n
      = carryAt v115 v116 v117 (arg13.view.read (Elt F) X_arg13) (arg14.view.read (Elt F) X_arg14)
          (arg15.view.read (Elt F) X_arg15) (arg16.view.read (Elt F) X_arg16) init n := by
  induction n with
  | zero => rfl
  | succ n ih =>
    have h : n < k0_t1_loop.trips := hn
    have e := st_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v115 v116 v117 X_arg13 X_arg14 X_arg15 X_arg16 init ⟨n, h⟩
    refine e.trans ?_
    rw [tripR_eq]
    show tripOf _ _ _ _ _ _ _ (st_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v115 v116 v117 X_arg13 X_arg14 X_arg15 X_arg16 init n) = _
    rw [ih (Nat.le_of_lt h), carryAt, dif_pos h]

end Trip

end Cert.KernelIdeal.Value

end
-- ==== Proof.Tables.lean ====
module

public import proofs.«01_k».proof.Proof.Trip

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- A table of rows by time and batch, read off rows numbered `32 * batch + time`. -/
def batchTable (v : FVec F S128x512 .f32) : Vec F S32x4x512 .f32 := fun i =>
  v (ix2 ⟨32 * (i 1).val + (i 0).val, by have h0 : (i 0).val < 32 := (i 0).isLt; have h1 : (i 1).val < 4 := (i 1).isLt; omega⟩
    ⟨(i 2).val, (i 2).isLt⟩)

/-- The same table with one zero row more after the last time. -/
def inTable (v : FVec F S128x512 .f32) : Vec F S33x4x512 .f32 := fun i =>
  if h : (i 0).val < 32 then
    v (ix2 ⟨32 * (i 1).val + (i 0).val, by have h1 : (i 1).val < 4 := (i 1).isLt; omega⟩ ⟨(i 2).val, (i 2).isLt⟩)
  else Scalar.ofBits .f32 0x00000000#32

/-- Batch `b`'s rows, cut out at row `32 b` and laid out by time, at an index. -/
theorem piece_apply (v : FVec F S128x512 .f32) (b : Fin 4) (off : Fin 2 → ℕ) (h) (hoff : off = ![32 * b.val, 0]) (x : S32x1x512.Idx) :
    shapeCast S32x1x512 (extractStridedSlice S32x512 off v h) shapeCasts_S32x512_S32x1x512 x
      = v (ix2 ⟨32 * b.val + (x 0).val, by have h0 : (x 0).val < 32 := (x 0).isLt; omega⟩ ⟨(x 2).val, (x 2).isLt⟩) := by
  subst hoff
  idx_vars x
  pointwise []

/-- A piece of batch `b` holds the table's entries at the places it is stored to. -/
theorem piece_batch (v : FVec F S128x512 .f32) (b : Fin 4) (off : Fin 2 → ℕ) (h) (hoff : off = ![32 * b.val, 0])
    (at' : Fin 3 → ℕ) (inb) (hat : at' = ![0, b.val, 0]) (x : S32x1x512.Idx) :
    shapeCast S32x1x512 (extractStridedSlice S32x512 off v h) shapeCasts_S32x512_S32x1x512 x
      = batchTable v ((Rect.unit (s := S32x4x512) at' S32x1x512.size inb).emb x) := by
  refine (piece_apply v b off h hoff x).trans ?_
  subst hat
  have h1 : (x 1).val < 1 := (x 1).isLt
  unfold batchTable
  refine congrArg v (congrArg₂ ix2 (Fin.ext ?_) (Fin.ext ?_))
  · show 32 * b.val + (x 0).val = 32 * (b.val + 1 * (x 1).val) + (0 + 1 * (x 0).val)
    omega
  · show (x 2).val = 0 + 1 * (x 2).val
    omega

/-- The same for the table with the zero row. -/
theorem piece_in (v : FVec F S128x512 .f32) (b : Fin 4) (off : Fin 2 → ℕ) (h) (hoff : off = ![32 * b.val, 0])
    (at' : Fin 3 → ℕ) (inb) (hat : at' = ![0, b.val, 0]) (x : S32x1x512.Idx) :
    shapeCast S32x1x512 (extractStridedSlice S32x512 off v h) shapeCasts_S32x512_S32x1x512 x
      = inTable v ((Rect.unit (s := S33x4x512) at' S32x1x512.size inb).emb x) := by
  refine (piece_apply v b off h hoff x).trans ?_
  subst hat
  have h0 : (x 0).val < 32 := (x 0).isLt
  have h1 : (x 1).val < 1 := (x 1).isLt
  unfold inTable
  refine Eq.trans ?_ (dif_pos (show 0 + 1 * (x 0).val < 32 by omega)).symm
  refine congrArg v (congrArg₂ ix2 (Fin.ext ?_) (Fin.ext ?_))
  · show 32 * b.val + (x 0).val = 32 * (b.val + 1 * (x 1).val) + (0 + 1 * (x 0).val)
    omega
  · show (x 2).val = 0 + 1 * (x 2).val
    omega

/-- The four batches' pieces together make up `batchTable`. -/
theorem canon_batch (v : FVec F S128x512 .f32) :
    View.canon (Val := Elt F) (s := S32x4x512) (e := .f32) [⟨Rect.unit ![0, 3, 0] S32x1x512.size inb_S32x4x512_S32x1x512_0_3_0, k0_pay55 v⟩,
      ⟨Rect.unit ![0, 2, 0] S32x1x512.size inb_S32x4x512_S32x1x512_0_2_0, k0_pay51 v⟩,
      ⟨Rect.unit ![0, 1, 0] S32x1x512.size inb_S32x4x512_S32x1x512_0_1_0, k0_pay46 v⟩,
      ⟨Rect.unit ![0, 0, 0] S32x1x512.size inb_S32x4x512_S32x1x512_0_0_0, k0_pay42 v⟩] = batchTable v := by
  funext y
  refine View.canon_apply_of_pieces (batchTable v) _ ?_ y (View.cover_of_tiledL (Val := Elt F) (s := S32x4x512) (e := .f32) _ S32x1x512.size (by sl_kernel_rfl) y)
  intro p hp x
  simp only [List.mem_cons, List.not_mem_nil, or_false] at hp
  rcases hp with rfl | rfl | rfl | rfl
  · exact piece_batch v 3 ![96, 0] slices_S128x512_o96_0_S32x512 rfl ![0, 3, 0] inb_S32x4x512_S32x1x512_0_3_0 rfl x
  · exact piece_batch v 2 ![64, 0] slices_S128x512_o64_0_S32x512 rfl ![0, 2, 0] inb_S32x4x512_S32x1x512_0_2_0 rfl x
  · exact piece_batch v 1 ![32, 0] slices_S128x512_o32_0_S32x512 rfl ![0, 1, 0] inb_S32x4x512_S32x1x512_0_1_0 rfl x
  · exact piece_batch v 0 ![0, 0] slices_S128x512_o0_0_S32x512 rfl ![0, 0, 0] inb_S32x4x512_S32x1x512_0_0_0 rfl x

/-- An index of the table with the zero row lies in a box of whole rows when its time and batch do. -/
theorem mem_box (y : S33x4x512.Idx) (a b p q : ℕ) (inb) (h0 : a ≤ (y 0).val) (h0' : (y 0).val < a + p) (h1 : b ≤ (y 1).val)
    (h1' : (y 1).val < b + q) : y ∈ (Rect.unit (s := S33x4x512) ![a, b, 0] ![p, q, 512] inb).set := by
  have h2 : (y 2).val < 512 := (y 2).isLt
  refine Rect.mem_set_unit.2 fun i => ?_
  match i with
  | 0 => exact ⟨h0, h0'⟩
  | 1 => exact ⟨h1, h1'⟩
  | 2 => exact ⟨Nat.zero_le _, by show (y 2).val < 0 + 512; omega⟩

/-- The zero row and the four batches' pieces together make up `inTable`. -/
theorem canon_in (v : FVec F S128x512 .f32) :
    View.canon (Val := Elt F) (s := S33x4x512) (e := .f32) [⟨Rect.unit ![32, 0, 0] S1x4x512.size inb_S33x4x512_S1x4x512_32_0_0, k0_pay58⟩,
      ⟨Rect.unit ![0, 3, 0] S32x1x512.size inb_S33x4x512_S32x1x512_0_3_0, k0_pay54 v⟩,
      ⟨Rect.unit ![0, 2, 0] S32x1x512.size inb_S33x4x512_S32x1x512_0_2_0, k0_pay50 v⟩,
      ⟨Rect.unit ![0, 1, 0] S32x1x512.size inb_S33x4x512_S32x1x512_0_1_0, k0_pay45 v⟩,
      ⟨Rect.unit ![0, 0, 0] S32x1x512.size inb_S33x4x512_S32x1x512_0_0_0, k0_pay41 v⟩] = inTable v := by
  funext y
  refine View.canon_apply_of_pieces (inTable v) _ ?_ y ?_
  · intro p hp x
    simp only [List.mem_cons, List.not_mem_nil, or_false] at hp
    rcases hp with rfl | rfl | rfl | rfl | rfl
    · unfold inTable
      refine Eq.trans ?_ (dif_neg (show ¬ 32 + 1 * (x 0).val < 32 by omega)).symm
      rfl
    · exact piece_in v 3 ![96, 0] slices_S128x512_o96_0_S32x512 rfl ![0, 3, 0] inb_S33x4x512_S32x1x512_0_3_0 rfl x
    · exact piece_in v 2 ![64, 0] slices_S128x512_o64_0_S32x512 rfl ![0, 2, 0] inb_S33x4x512_S32x1x512_0_2_0 rfl x
    · exact piece_in v 1 ![32, 0] slices_S128x512_o32_0_S32x512 rfl ![0, 1, 0] inb_S33x4x512_S32x1x512_0_1_0 rfl x
    · exact piece_in v 0 ![0, 0] slices_S128x512_o0_0_S32x512 rfl ![0, 0, 0] inb_S33x4x512_S32x1x512_0_0_0 rfl x
  · have h0 : (y 0).val < 33 := (y 0).isLt
    have h1 : (y 1).val < 4 := (y 1).isLt
    rcases Nat.lt_or_ge (y 0).val 32 with h | h
    · obtain h' | h' | h' | h' : (y 1).val = 3 ∨ (y 1).val = 2 ∨ (y 1).val = 1 ∨ (y 1).val = 0 := by omega
      · exact ⟨_, .tail _ (.head _), mem_box y 0 3 32 1 inb_S33x4x512_S32x1x512_0_3_0 (by omega) (by omega) (by omega) (by omega)⟩
      · exact ⟨_, .tail _ (.tail _ (.head _)), mem_box y 0 2 32 1 inb_S33x4x512_S32x1x512_0_2_0 (by omega) (by omega) (by omega) (by omega)⟩
      · exact ⟨_, .tail _ (.tail _ (.tail _ (.head _))), mem_box y 0 1 32 1 inb_S33x4x512_S32x1x512_0_1_0 (by omega) (by omega) (by omega) (by omega)⟩
      · exact ⟨_, .tail _ (.tail _ (.tail _ (.tail _ (.head _)))), mem_box y 0 0 32 1 inb_S33x4x512_S32x1x512_0_0_0 (by omega) (by omega) (by omega) (by omega)⟩
    · exact ⟨_, .head _, mem_box y 32 0 1 4 inb_S33x4x512_S1x4x512_32_0_0 (by omega) (by omega) (by omega) (by omega)⟩

end Cert.KernelIdeal.Value

end
-- ==== Proof.Launch.lean ====
module

public import proofs.«01_k».proof.Proof.Tables

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- What the loop starts from: the two halves of the memory, ones and zeros for the rows' factors and ages, and the rows' products with
the first input. -/
def initOf (x1 : Vec F S4x64x512 .f32) (row0 : FVec F S1x4x512 .f32) : Carry F :=
  (View.ld x1 (Rect.unit ![0, 0, 0] S2x64x512.size inb_S4x64x512_S2x64x512_0_0_0),
    View.ld x1 (Rect.unit ![2, 0, 0] S2x64x512.size inb_S4x64x512_S2x64x512_2_0_0), k0_pay4, k0_pay4,
    k0_pay2 (View.ld x1 (Rect.unit ![0, 0, 0] S2x64x512.size inb_S4x64x512_S2x64x512_0_0_0)) row0,
    k0_pay3 (View.ld x1 (Rect.unit ![2, 0, 0] S2x64x512.size inb_S4x64x512_S2x64x512_2_0_0)) row0, k0_pay62, k0_pay62)

/-- The half of a weight matrix that meets the inputs (columns below 512). -/
def lowHalf (x : Vec F S512x1024 .f32) : FVec F S512x512 .f32 :=
  View.ld x (Rect.unit ![0, 0] S512x512.size inb_S512x1024_S512x512_0_0)

/-- The half of a weight matrix that meets the memory (columns from 512). -/
def highHalf (x : Vec F S512x1024 .f32) : FVec F S512x512 .f32 :=
  View.ld x (Rect.unit ![0, 512] S512x512.size inb_S512x1024_S512x512_0_512)

variable (x0 : Vec F S4x32x1024 .f32) (x1 : Vec F S4x64x512 .f32) (x2 x3 x4 x5 x6 : Vec F S512x1024 .f32)
  (x7 x8 x9 x10 x11 : Vec F S1x512 .f32)

/-- The inputs' projections by time and batch. -/
def mIn : Vec F S33x4x512 .f32 := inTable (k0_pay36 x0 x2 x7)
/-- The gate's input part by time and batch. -/
def gIn : Vec F S32x4x512 .f32 := batchTable (k0_pay38 x0 x3 x8 (lowHalf x4) x9)
/-- The update's input part by time and batch. -/
def uIn : Vec F S32x4x512 .f32 := batchTable (k0_pay39 x0 x3 x8 (lowHalf x5) x10)
/-- The reset's input part by time and batch. -/
def rIn : Vec F S32x4x512 .f32 := batchTable (k0_pay40 x0 x3 x8 (lowHalf x6) x11)

/-- What the launch's loop carries after `n` trips. -/
def carry (n : ℕ) : Carry F :=
  carryAt (k0_pay59 (highHalf x4)) (k0_pay60 (highHalf x5)) (k0_pay61 (highHalf x6)) (mIn x0 x2 x7) (gIn x0 x3 x4 x8 x9)
    (uIn x0 x3 x5 x8 x10) (rIn x0 x3 x6 x8 x11)
    (initOf x1 (View.ld (mIn x0 x2 x7) (Rect.unit ![0, 0, 0] S1x4x512.size inb_S33x4x512_S1x4x512_0_0_0))) n

/-- The launch's output from what its loop carries at the end. -/
def outOf (a : Carry F) : Vec F S4x64x512 .f32 :=
  View.canon (Val := Elt F) (s := S4x64x512) (e := .f32)
    [⟨Rect.unit ![2, 0, 0] S2x64x512.size inb_S4x64x512_S2x64x512_2_0_0, k0_pay11 a.2.1 a.2.2.2.1⟩,
      ⟨Rect.unit ![0, 0, 0] S2x64x512.size inb_S4x64x512_S2x64x512_0_0_0, k0_pay10 a.1 a.2.2.1⟩]

variable (c : Dev nD) (arg0 : Memref sig .tc .vmem S4x32x1024 .f32) (harg0 : arg0.IsWhole) (arg1 : Memref sig .tc .vmem S4x64x512 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S4x64x512 .f32) (harg12 : arg12.IsWhole) (arg13 : Memref sig .tc .vmem S33x4x512 .f32) (harg13 : arg13.IsWhole) (arg14 : Memref sig .tc .vmem S32x4x512 .f32) (harg14 : arg14.IsWhole) (arg15 : Memref sig .tc .vmem S32x4x512 .f32) (harg15 : arg15.IsWhole) (arg16 : Memref sig .tc .vmem S32x4x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole)

/-- Loops carrying the same values between the same tables carry the same. -/
theorem carryAt_congr {wg wg' wu wu' wr wr' : FVec F S512x512 .f32} {mi mi' : Vec F S33x4x512 .f32} {xg xg' xu xu' xr xr' : Vec F S32x4x512 .f32}
    {a a' : Carry F} {n n' : ℕ} (h1 : wg = wg') (h2 : wu = wu') (h3 : wr = wr') (h4 : mi = mi') (h5 : xg = xg') (h6 : xu = xu') (h7 : xr = xr')
    (h8 : a = a') (h9 : n = n') : carryAt wg wu wr mi xg xu xr a n = carryAt wg' wu' wr' mi' xg' xu' xr' a' n' := by
  subst h1 h2 h3 h4 h5 h6 h7 h8 h9; rfl

set_option maxHeartbeats 4000000 in
/-- The launch's output is `outOf` of the loop's carry after its 32 trips. -/
theorem out_eq : out0_A_12 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11
    = outOf (carry x0 x1 x2 x3 x4 x5 x6 x7 x8 x9 x10 x11 32) := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11)]
  unfold kernelRun0_A
  dsimp only
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread]
  have key : ∀ a, a = carry x0 x1 x2 x3 x4 x5 x6 x7 x8 x9 x10 x11 32 → outOf a = outOf (carry x0 x1 x2 x3 x4 x5 x6 x7 x8 x9 x10 x11 32) :=
    fun a h => congrArg _ h
  unfold outOf at key ⊢
  generalize hr : st_k0_t1 (F := F) _ _ _ _ _ _ _ _ _ _ _ _ _ _ _ _ _ _ _ _ _ _ _ _ _ _ _ _ _ _ _ _ _ _ _ _ _ _ _ _ _ _ _ _ _ _ _ _ _ _ _ _ = r
  refine key r (hr.symm.trans ?_)
  rw [st_eq (hn := le_of_eq rfl)]
  simp only [View.read_writes_junk_eq_canon]
  unfold carry
  have z3 : (![0, 0, 0] : Fin 3 → ℕ) = fun _ => 0 := by decide
  have z2 : (![0, 0] : Fin 2 → ℕ) = fun _ => 0 := by decide
  have l0 := View.ld_unit_zero (Val := Elt F) (S := S4x32x1024) (e := .f32) z3 inb_S4x32x1024_S4x32x1024_0_0_0 x0
  have lW : ∀ x : Vec F S512x1024 .f32, View.ld x (Rect.unit ![0, 0] ![512, 1024] inb_S512x1024_S512x1024_0_0) = x :=
    View.ld_unit_zero (Val := Elt F) (S := S512x1024) (e := .f32) z2 inb_S512x1024_S512x1024_0_0
  have lb : ∀ x : Vec F S1x512 .f32, View.ld x (Rect.unit ![0, 0] ![1, 512] inb_S1x512_S1x512_0_0) = x :=
    View.ld_unit_zero (Val := Elt F) (S := S1x512) (e := .f32) z2 inb_S1x512_S1x512_0_0
  clear hr key
  refine carryAt_congr ?_ ?_ ?_ ?_ ?_ ?_ ?_ ?_ rfl
  · sl_unfold_words
    simp only [View.readAt_eq_ld, harg4.read_unread]
    exact View.readCov_unit_zero (S := S512x512) _ z2 inb_S512x512_S512x512_0_0 _
  · sl_unfold_words
    simp only [View.readAt_eq_ld, harg5.read_unread]
    exact View.readCov_unit_zero (S := S512x512) _ z2 inb_S512x512_S512x512_0_0 _
  · sl_unfold_words
    simp only [View.readAt_eq_ld, harg6.read_unread]
    exact View.readCov_unit_zero (S := S512x512) _ z2 inb_S512x512_S512x512_0_0 _
  · sl_unfold_words
    simp only [View.readAt_eq_ld, harg0.read_unread, harg2.read_unread, harg7.read_unread]
    erw [l0, lW, lb]
    exact canon_in _
  · sl_unfold_words
    simp only [View.readAt_eq_ld, harg0.read_unread, harg3.read_unread, harg4.read_unread, harg8.read_unread, harg9.read_unread]
    erw [l0, lW, lb, lb]
    exact canon_batch _
  · sl_unfold_words
    simp only [View.readAt_eq_ld, harg0.read_unread, harg3.read_unread, harg5.read_unread, harg8.read_unread, harg10.read_unread]
    erw [l0, lW, lb, lb]
    exact canon_batch _
  · sl_unfold_words
    simp only [View.readAt_eq_ld, harg0.read_unread, harg3.read_unread, harg6.read_unread, harg8.read_unread, harg11.read_unread]
    erw [l0, lW, lb, lb]
    exact canon_batch _
  · have e : ∀ w : FVec F S1x4x512 .f32, w = View.ld (mIn x0 x2 x7) (Rect.unit ![0, 0, 0] S1x4x512.size inb_S33x4x512_S1x4x512_0_0_0) →
        initOf x1 w = initOf x1 (View.ld (mIn x0 x2 x7) (Rect.unit ![0, 0, 0] S1x4x512.size inb_S33x4x512_S1x4x512_0_0_0)) := fun w h => congrArg _ h
    unfold initOf at e ⊢
    refine e _ ?_
    sl_unfold_words
    simp only [View.readAt_eq_ld, harg0.read_unread, harg2.read_unread, harg7.read_unread, View.readCov_eq_canon']
    erw [l0, lW, lb]
    exact congrArg (fun X : Vec F S33x4x512 .f32 => View.ld X (Rect.unit ![0, 0, 0] S1x4x512.size inb_S33x4x512_S1x4x512_0_0_0)) (canon_in (k0_pay36 x0 x2 x7))

end Cert.KernelIdeal.Value

end
-- ==== Proof.Final.lean ====
module

public import proofs.«01_k».proof.Proof.Launch

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- A window over a whole array reads each coordinate at itself. -/
theorem whole_val (x k : ℕ) : 0 * k + 1 * x = x := by omega

/-- A bias vector as one row. -/
def rowOf (v : Vec F S512 .f32) : Vec F S1x512 .f32 := shapeCast S1x512 v shapeCasts_S512_S1x512

/-- The launch finds the five biases laid out as one row each. -/
theorem V_biases (c : Dev nD) :
    V m c main_call0_v0 = rowOf (m ((c : Thread nD τ).loc main_arg3))
    ∧ V m c main_call0_v1 = rowOf (m ((c : Thread nD τ).loc main_arg5))
    ∧ V m c main_call0_v2 = rowOf (m ((c : Thread nD τ).loc main_arg7))
    ∧ V m c main_call0_v3 = rowOf (m ((c : Thread nD τ).loc main_arg9))
    ∧ V m c main_call0_v4 = rowOf (m ((c : Thread nD τ).loc main_arg11)) := by
  refine ⟨?_, ?_, ?_, ?_, ?_⟩ <;> (unfold V hostOps0; after_results; rfl)

/-- Each input window's block is its array as the launch found it: an argument, or a bias laid out as one row. -/
theorem iblk_eq (c : Dev nD) (t : Fin cfg0.N) :
    iblk m c 0 t = m ((c : Thread nD τ).loc main_arg0)
    ∧ iblk m c 1 t = m ((c : Thread nD τ).loc main_arg1)
    ∧ iblk m c 2 t = m ((c : Thread nD τ).loc main_arg2)
    ∧ iblk m c 3 t = m ((c : Thread nD τ).loc main_arg4)
    ∧ iblk m c 4 t = m ((c : Thread nD τ).loc main_arg6)
    ∧ iblk m c 5 t = m ((c : Thread nD τ).loc main_arg8)
    ∧ iblk m c 6 t = m ((c : Thread nD τ).loc main_arg10)
    ∧ iblk m c 7 t = rowOf (m ((c : Thread nD τ).loc main_arg3))
    ∧ iblk m c 8 t = rowOf (m ((c : Thread nD τ).loc main_arg5))
    ∧ iblk m c 9 t = rowOf (m ((c : Thread nD τ).loc main_arg7))
    ∧ iblk m c 10 t = rowOf (m ((c : Thread nD τ).loc main_arg9))
    ∧ iblk m c 11 t = rowOf (m ((c : Thread nD τ).loc main_arg11)) := by
  obtain ⟨b0, b1, b2, b3, b4⟩ := V_biases m c
  exact ⟨(funext fun j => congrArg (V m c main_arg0) (funext fun a => Fin.ext (whole_val (j a).val _))).trans (V_main_arg0 m c),
    (funext fun j => congrArg (V m c main_arg1) (funext fun a => Fin.ext (whole_val (j a).val _))).trans (V_main_arg1 m c),
    (funext fun j => congrArg (V m c main_arg2) (funext fun a => Fin.ext (whole_val (j a).val _))).trans (V_main_arg2 m c),
    (funext fun j => congrArg (V m c main_arg4) (funext fun a => Fin.ext (whole_val (j a).val _))).trans (V_main_arg4 m c),
    (funext fun j => congrArg (V m c main_arg6) (funext fun a => Fin.ext (whole_val (j a).val _))).trans (V_main_arg6 m c),
    (funext fun j => congrArg (V m c main_arg8) (funext fun a => Fin.ext (whole_val (j a).val _))).trans (V_main_arg8 m c),
    (funext fun j => congrArg (V m c main_arg10) (funext fun a => Fin.ext (whole_val (j a).val _))).trans (V_main_arg10 m c),
    (funext fun j => congrArg (V m c main_call0_v0) (funext fun a => Fin.ext (whole_val (j a).val _))).trans b0,
    (funext fun j => congrArg (V m c main_call0_v1) (funext fun a => Fin.ext (whole_val (j a).val _))).trans b1,
    (funext fun j => congrArg (V m c main_call0_v2) (funext fun a => Fin.ext (whole_val (j a).val _))).trans b2,
    (funext fun j => congrArg (V m c main_call0_v3) (funext fun a => Fin.ext (whole_val (j a).val _))).trans b3,
    (funext fun j => congrArg (V m c main_call0_v4) (funext fun a => Fin.ext (whole_val (j a).val _))).trans b4⟩

/-- The launch's result: `outOf` of what the loop carries after its 32 trips over the arguments. -/
def result (c : Dev nD) : Vec F S4x64x512 .f32 :=
  outOf (carry (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8)) (m ((c : Thread nD τ).loc main_arg10)) (rowOf (m ((c : Thread nD τ).loc main_arg3))) (rowOf (m ((c : Thread nD τ).loc main_arg5))) (rowOf (m ((c : Thread nD τ).loc main_arg7))) (rowOf (m ((c : Thread nD τ).loc main_arg9))) (rowOf (m ((c : Thread nD τ).loc main_arg11))) 32)

/-- The output window's block is the whole array. -/
theorem emb12 (t : Fin cfg0.N) (j : S4x64x512.Idx) : ((cfg0.win 12).blk t).view.emb j = j :=
  funext fun a => Fin.ext (whole_val (j a).val _)

/-- Cutting the window's block out of a whole array and reading the array through the window give the same. -/
theorem cut_eq (t : Fin cfg0.N) (X : Vec F S4x64x512 .f32) :
    (cfg0.win 12).cut (grid0.coords t) X = ((cfg0.win 12).blk t).view.read (Elt F) X := by
  funext j
  show X j = X (((cfg0.win 12).blk t).view.emb j)
  rw [emb12]

/-- What the one grid point writes back is `result`. -/
theorem flushed_eq (c : Dev nD) (t : Fin cfg0.N) :
    (dats m 0 c).flushed 12 t = ((cfg0.win 12).blk t).view.read (Elt F) (result m c) := by
  obtain ⟨h0, h1, h2, h3, h4, h5, h6, h7, h8, h9, h10, h11⟩ := iblk_eq m c t
  rw [flushed12_A, out_eq, h0, h1, h2, h3, h4, h5, h6, h7, h8, h9, h10, h11]
  exact cut_eq t (result m c)

/-- The result array ends at `result`. -/
theorem final (c : Dev nD) : (dats m 0 c).arrAt 12 cfg0.N = result m c :=
  (dats m 0 c).arrAt_eq_of_cover 12 (result m c) (fun t _ => flushed_eq m c t) fun i =>
    ⟨t0_0, flush0_12 _, by have h := ((cfg0.win 12).blk t0_0).view.emb_mem_set i; rwa [emb12] at h⟩

end Cert.KernelIdeal.Value

end
-- ==== Proof.Model.lean ====
module

public import Idealize.ShloMosaic.Lib.Pointwise

/-! # One batch's memory update, at a time step, over the extended reals

The kernel's form and the reference's, each as a function of one batch's rows, and the proof that they keep the same memory. -/

@[expose] public section

noncomputable section

namespace Cert.Model

open Idealize.ShloMosaic

/-- A row of the memory, or of an input. -/
abbrev Row := Fin 512 → EReal
/-- Half a weight matrix, by input and output. -/
abbrev Mat := Fin 512 → Fin 512 → EReal

/-- The weight of a row's usage in its score. -/
abbrev cUse : EReal := Ideal.ofBits .f32 0x3E4CCCCD#32
/-- The weight of a row's age in its score. -/
abbrev cAge : EReal := Ideal.ofBits .f32 0x3DCCCCCD#32
/-- The least write weight that counts. -/
abbrev cMin : EReal := Ideal.ofBits .f32 0x3C23D70A#32
/-- One half. -/
abbrev cHalf : EReal := Ideal.ofBits .f32 0x3F000000#32
/-- The usage's decay. -/
abbrev dUse : EReal := Ideal.ofBits .f32 0x3F7D70A4#32
/-- The age's decay. -/
abbrev dAge : EReal := Ideal.ofBits .f32 0x3F7AE148#32
/-- The least norm a row is divided by. -/
abbrev cEps : EReal := Ideal.ofBits .f32 0x2B8CBCCC#32
/-- The square of the least norm. -/
def epsSq : EReal := cEps * cEps

/-- The largest of the scores. -/
def top (s : Fin 64 → EReal) : EReal := Finset.fold max (Ideal.ofBits .f32 0xFF800000#32) s Finset.univ
/-- The softmax of the scores. -/
def wgt (s : Fin 64 → EReal) (n : Fin 64) : EReal :=
  Ideal.div (Ideal.exp (s n - top s)) (∑ x, Ideal.exp (s x - top s))
/-- The weights that count, the others at zero. -/
def kept (s : Fin 64 → EReal) (n : Fin 64) : EReal := if cMin < wgt s n then wgt s n else 0

/-! ## The kernel's form -/

/-- The scores from the rows' products with the input. -/
def kScore (sim us ag : Fin 64 → EReal) (n : Fin 64) : EReal := us n * cUse + ag n * cAge - sim n
/-- A gate of an unnormalised row `u` with factor `i`. -/
def kGate (w : Mat) (x u : Row) (i : EReal) (m : Fin 512) : EReal := Ideal.logistic (i * ∑ k, u k * w k m + x m)
/-- The candidate row. -/
def kCand (wu wr : Mat) (xu xr u : Row) (i : EReal) (m : Fin 512) : EReal :=
  Ideal.tanh (∑ k, kGate wr xr u i k * (u k * i) * wu k m + xu m)
/-- The updated row, before its factor. -/
def kRow (wg wu wr : Mat) (xg xu xr u : Row) (i w : EReal) (m : Fin 512) : EReal :=
  u m * i + w * cHalf * kGate wg xg u i m * (kCand wu wr xu xr u i m - u m * i)
/-- A row's factor. -/
def kInv (u : Row) : EReal := Ideal.rsqrt (max (∑ k, u k * u k) epsSq)
/-- A row's product with an input, by its factor. -/
def kSim (u x : Row) : EReal := (∑ k, u k * x k) * kInv u

/-- What the kernel carries for a batch: rows, factors, products with the coming input, usage and age. -/
structure KState where
  U : Fin 64 → Row
  inv : Fin 64 → EReal
  sim : Fin 64 → EReal
  us : Fin 64 → EReal
  ag : Fin 64 → EReal

/-- The kernel's weights that count. -/
def KState.w (s : KState) : Fin 64 → EReal := kept (kScore s.sim s.us s.ag)

/-- The kernel's step over the input parts `xg`, `xu`, `xr` of the gates and the next step's input `x`. -/
def kStep (wg wu wr : Mat) (xg xu xr x : Row) (s : KState) : KState where
  U n := kRow wg wu wr xg xu xr (s.U n) (s.inv n) (s.w n)
  inv n := kInv (kRow wg wu wr xg xu xr (s.U n) (s.inv n) (s.w n))
  sim n := kSim (kRow wg wu wr xg xu xr (s.U n) (s.inv n) (s.w n)) x
  us n := (s.us n + s.w n) * dUse
  ag n := s.ag n * dAge + 1

/-! ## The reference's form -/

/-- The scores. -/
def rScore (x : Row) (mem : Fin 64 → Row) (us ag : Fin 64 → EReal) (n : Fin 64) : EReal :=
  -(∑ k, x k * mem n k - ag n * cAge - us n * cUse)
/-- A gate's argument over the values `v` and a row `u`. -/
def rLin (lo hi : Mat) (v u b : Row) (m : Fin 512) : EReal := ∑ k, v k * lo k m + ∑ k, u k * hi k m + b m
/-- A gate. -/
def rGate (lo hi : Mat) (v u b : Row) (m : Fin 512) : EReal := Ideal.div 1 (1 + Ideal.exp (-(rLin lo hi v u b m)))

/-- A gate's or the candidate's weights: for the values, for the memory, and the bias. -/
structure Lin where
  lo : Mat
  hi : Mat
  b : Row

/-- The part of a gate's argument that the values alone give. -/
def Lin.part (L : Lin) (v : Row) (m : Fin 512) : EReal := ∑ k, v k * L.lo k m + L.b m

/-- The candidate row. -/
def rCand (Lu Lr : Lin) (v u : Row) (m : Fin 512) : EReal :=
  Ideal.tanh (rLin Lu.lo Lu.hi v (fun k => rGate Lr.lo Lr.hi v u Lr.b k * u k) Lu.b m)
/-- The updated row, before its norm is divided out. -/
def rNew (Lg Lu Lr : Lin) (v u : Row) (w : EReal) (m : Fin 512) : EReal :=
  if cMin < w then u m * (1 - w * cHalf)
      + ((1 - rGate Lg.lo Lg.hi v u Lg.b m) * u m + rGate Lg.lo Lg.hi v u Lg.b m * rCand Lu Lr v u m) * (w * cHalf)
    else u m
/-- The updated row. -/
def rRow (u : Row) (m : Fin 512) : EReal := Ideal.div (u m) (max (Ideal.sqrt (∑ k, u k * u k)) cEps)

/-- What the reference carries for a batch. -/
structure RState where
  mem : Fin 64 → Row
  us : Fin 64 → EReal
  ag : Fin 64 → EReal

/-- The reference's weights at an input. -/
def RState.w (x : Row) (s : RState) : Fin 64 → EReal := wgt (rScore x s.mem s.us s.ag)

/-- The reference's step at an input `x` and values `v`. -/
def rStep (Lg Lu Lr : Lin) (x v : Row) (s : RState) : RState where
  mem n := rRow (rNew Lg Lu Lr v (s.mem n) (s.w x n))
  us n := (s.us n + if cMin < s.w x n then s.w x n else 0) * dUse
  ag n := s.ag n * dAge + 1

/-! ## The run -/

/-- An input projected by a weight matrix and a bias. -/
def proj (x : Fin 1024 → EReal) (W : Fin 512 → Fin 1024 → EReal) (b : Row) : Row := fun m => ∑ d, x d * W m d + b m

/-- The weights of a layer over values and memory side by side. -/
def linOf (W : Fin 512 → Fin 1024 → EReal) (b : Row) : Lin where
  lo k m := W m ⟨k.val, by omega⟩
  hi k m := W m ⟨512 + k.val, by omega⟩
  b := b

/-- The reference's state after a number of steps, from the inputs and values at each time. -/
def rAt (Lg Lu Lr : Lin) (xs vs : ℕ → Row) (s : RState) : ℕ → RState
  | 0 => s
  | n + 1 => rStep Lg Lu Lr (xs n) (vs n) (rAt Lg Lu Lr xs vs s n)

/-- The projections of a sequence of 32 inputs. -/
def seqOf (x : Fin 32 → Fin 1024 → EReal) (W : Fin 512 → Fin 1024 → EReal) (b : Row) (t : ℕ) : Row :=
  if h : t < 32 then proj (x ⟨t, h⟩) W b else fun _ => 0

/-- The reference's state at the start. -/
def rInit (mem : Fin 64 → Row) : RState := ⟨mem, fun _ => 0, fun _ => 0⟩

/-! ## The constants -/

/-- One half is one half. -/
theorem cHalf_eq : cHalf = ((1 / 2 : ℝ) : EReal) := by
  simp [cHalf, Ideal.ofBits, Ideal.ieee, -EReal.coe_mul]; norm_num
/-- The usage's weight is a real number. -/
theorem cUse_real : ∃ r : ℝ, cUse = r := ⟨_, by simp [cUse, Ideal.ofBits, Ideal.ieee, -EReal.coe_mul]; rfl⟩
/-- The age's weight is a real number. -/
theorem cAge_real : ∃ r : ℝ, cAge = r := ⟨_, by simp [cAge, Ideal.ofBits, Ideal.ieee, -EReal.coe_mul]; rfl⟩
/-- The usage's decay is a real number. -/
theorem dUse_real : ∃ r : ℝ, dUse = r := ⟨_, by simp [dUse, Ideal.ofBits, Ideal.ieee, -EReal.coe_mul]; rfl⟩
/-- The age's decay is a real number. -/
theorem dAge_real : ∃ r : ℝ, dAge = r := ⟨_, by simp [dAge, Ideal.ofBits, Ideal.ieee, -EReal.coe_mul]; rfl⟩
/-- The least write weight that counts, as a fraction. -/
theorem cMin_eq : cMin = ((10737418 / 2 ^ 30 : ℝ) : EReal) := by
  simp [cMin, Ideal.ofBits, Ideal.ieee, -EReal.coe_mul]; norm_num
/-- The least norm, as a fraction. -/
theorem cEps_eq : cEps = ((2305843 / 2 ^ 61 : ℝ) : EReal) := by
  simp [cEps, Ideal.ofBits, Ideal.ieee, -EReal.coe_mul]; norm_num

end Cert.Model

end
-- ==== Proof.Step.lean ====
module

public import proofs.«01_k».proof.Proof.Model

/-! # The two forms of a step keep the same memory -/

@[expose] public section

noncomputable section

namespace Cert.Model

open Idealize.ShloMosaic

/-! ## Extended-real arithmetic -/

/-- A nonnegative real factor distributes over any sum. -/
theorem coe_mul_sum {ι : Type} (s : Finset ι) (r : ℝ) (hr : 0 ≤ r) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The logistic of anything is a real between 0 and 1. -/
theorem logistic_real (x : EReal) : ∃ r : ℝ, Ideal.logistic x = r ∧ 0 ≤ r ∧ r ≤ 1 := by
  induction x with
  | bot => exact ⟨0, by simp, le_rfl, zero_le_one⟩
  | top => exact ⟨1, by simp, zero_le_one, le_rfl⟩
  | coe x =>
    refine ⟨_, Ideal.logistic_coe x, by positivity, ?_⟩
    have := Real.exp_pos (-x)
    exact inv_le_one_of_one_le₀ (by linarith)

/-- The hyperbolic tangent of anything is real. -/
theorem tanh_real (x : EReal) : ∃ r : ℝ, Ideal.tanh x = r := by
  induction x with
  | bot => exact ⟨-1, by simp⟩
  | top => exact ⟨1, by simp⟩
  | coe x => exact ⟨_, Ideal.tanh_coe x⟩

/-- The exponential is nowhere negative. -/
theorem exp_nonneg (x : EReal) : 0 ≤ Ideal.exp x := by
  induction x with
  | bot => simp
  | top => simp
  | coe x => rw [Ideal.exp_coe]; exact_mod_cast (Real.exp_pos x).le

/-- The quotient of a nonnegative part by its whole is `⊥` (the whole zero) or a real between 0 and 1. -/
theorem div_part (a z : EReal) (ha : 0 ≤ a) (h : a ≤ z) : Ideal.div a z = ⊥ ∨ ∃ r : ℝ, Ideal.div a z = r ∧ 0 ≤ r ∧ r ≤ 1 := by
  induction z with
  | bot => exact absurd (ha.trans h) (by simp)
  | top =>
    right
    refine ⟨0, ?_, le_rfl, zero_le_one⟩
    simp [Ideal.div]
  | coe z =>
    lift a to ℝ using ⟨ne_top_of_le_ne_top (EReal.coe_ne_top z) h, fun e => by simp [e] at ha⟩
    have ha' : 0 ≤ a := by exact_mod_cast ha
    have h' : a ≤ z := by exact_mod_cast h
    rcases eq_or_ne z 0 with rfl | hz
    · left
      have : a = 0 := le_antisymm h' ha'
      subst this
      simp [Ideal.div]
    · right
      refine ⟨a * (1 / z), by rw [Ideal.div_coe hz, EReal.coe_mul], mul_nonneg ha' (one_div_nonneg.2 (ha'.trans h')), ?_⟩
      rw [mul_one_div]
      exact div_le_one_of_le₀ h' (ha'.trans h')

/-- A softmax weight is minus infinity or a real between zero and one. -/
theorem wgt_cases (s : Fin 64 → EReal) (n : Fin 64) : wgt s n = ⊥ ∨ ∃ r : ℝ, wgt s n = r ∧ 0 ≤ r ∧ r ≤ 1 :=
  div_part _ _ (exp_nonneg _) (Finset.single_le_sum (f := fun x => Ideal.exp (s x - top s)) (fun x _ => exp_nonneg _) (Finset.mem_univ n))

/-- A weight that counts is a real in `(0, 1]`. -/
theorem wgt_real (s : Fin 64 → EReal) (n : Fin 64) (h : cMin < wgt s n) : ∃ r : ℝ, wgt s n = r ∧ 0 < r ∧ r ≤ 1 := by
  rcases wgt_cases s n with e | ⟨r, e, _, h1⟩
  · rw [e] at h; exact absurd h (by simp)
  · refine ⟨r, e, ?_, h1⟩
    rw [e, cMin_eq] at h
    have : (10737418 / 2 ^ 30 : ℝ) < r := by exact_mod_cast h
    exact lt_trans (by norm_num) this

/-- A weight that counts is a real number. -/
theorem kept_real (s : Fin 64 → EReal) (n : Fin 64) : ∃ r : ℝ, kept s n = r := by
  unfold kept
  split_ifs with h
  · obtain ⟨r, e, _⟩ := wgt_real s n h; exact ⟨r, e⟩
  · exact ⟨0, rfl⟩

/-- A sum of nonnegative terms one of which is `⊤` is `⊤`. -/
theorem sum_top {ι : Type} (s : Finset ι) (f : ι → EReal) (h0 : ∀ k ∈ s, 0 ≤ f k) (k : ι) (hk : k ∈ s) (h : f k = ⊤) : ∑ k ∈ s, f k = ⊤ :=
  top_le_iff.1 (h ▸ Finset.single_le_sum h0 hk)

/-- A square is nowhere negative. -/
theorem sq_nonneg' (x : EReal) : 0 ≤ x * x := by
  induction x with
  | bot => simp
  | top => simp
  | coe x => rw [← EReal.coe_mul]; exact_mod_cast mul_self_nonneg x

/-- A sum of squares is nowhere negative. -/
theorem nsq_nonneg (u : Row) : 0 ≤ ∑ k, u k * u k := Finset.sum_nonneg fun k _ => sq_nonneg' _

/-- A row with an infinite entry has an infinite sum of squares. -/
theorem nsq_top (u : Row) (m : Fin 512) (h : u m = ⊤ ∨ u m = ⊥) : ∑ k, u k * u k = ⊤ :=
  sum_top _ (fun k => u k * u k) (fun k _ => sq_nonneg' _) m (Finset.mem_univ m) (by rcases h with h | h <;> simp [h])

/-! ## The norm -/

/-- The squared least norm, as a fraction. -/
theorem epsSq_eq : epsSq = (((2305843 / 2 ^ 61) * (2305843 / 2 ^ 61) : ℝ) : EReal) := by rw [epsSq, cEps_eq, EReal.coe_mul]

/-- The reciprocal root of a clamped square is the reciprocal of the clamped root. -/
theorem rsqrt_max (x : EReal) (hx : 0 ≤ x) :
    ∃ r : ℝ, 0 ≤ r ∧ Ideal.rsqrt (max x epsSq) = r ∧ ∀ y, Ideal.div y (max (Ideal.sqrt x) cEps) = y * (r : EReal) := by
  rw [epsSq_eq, cEps_eq]
  have he : (0 : ℝ) < 2305843 / 2 ^ 61 := by norm_num
  generalize (2305843 / 2 ^ 61 : ℝ) = e at he
  induction x with
  | bot => simp at hx
  | top => exact ⟨0, le_rfl, by simp, fun y => by simp [Ideal.div]⟩
  | coe x =>
    have hx' : 0 ≤ x := by exact_mod_cast hx
    have hm : 0 < max x (e * e) := lt_max_of_lt_right (mul_pos he he)
    have hs : Real.sqrt (max x (e * e)) = max (Real.sqrt x) e := by
      rw [(Real.sqrt_monotone.map_max : _ = max (Real.sqrt x) (Real.sqrt (e * e))), Real.sqrt_mul_self he.le]
    have hp : 0 < max (Real.sqrt x) e := lt_max_of_lt_right he
    refine ⟨(max (Real.sqrt x) e)⁻¹, inv_nonneg.2 hp.le, ?_, fun y => ?_⟩
    · rw [← EReal.coe_strictMono.monotone.map_max, Ideal.rsqrt_coe, if_neg hm.not_gt, if_neg hm.ne', hs]
    · rw [Ideal.sqrt_coe, if_neg hx'.not_gt, ← EReal.coe_strictMono.monotone.map_max, Ideal.div_coe hp.ne', one_div]

/-- A row's factor is a nonnegative real. -/
theorem kInv_real (u : Row) : ∃ r : ℝ, 0 ≤ r ∧ kInv u = r := by
  obtain ⟨r, h, e, _⟩ := rsqrt_max _ (nsq_nonneg u)
  exact ⟨r, h, e⟩

/-- Dividing by the norm, kept above the least norm, is multiplying by the kernel's factor. -/
theorem rRow_eq (u : Row) (m : Fin 512) : rRow u m = u m * kInv u := by
  obtain ⟨r, _, e, h⟩ := rsqrt_max _ (nsq_nonneg u)
  rw [rRow, h, kInv, e]

/-- The factor of a row with an infinite entry is zero. -/
theorem kInv_top (u : Row) (m : Fin 512) (h : u m = ⊤ ∨ u m = ⊥) : kInv u = 0 := by
  rw [kInv, nsq_top u m h]; simp

/-! ## The gates -/

variable (Lg Lu Lr L : Lin) (v u : Row)

/-- A gate of an unnormalised row is the reference's gate of the row. -/
theorem kGate_eq (i : EReal) (r : ℝ) (hr : 0 ≤ r) (hi : i = r) (m : Fin 512) :
    kGate L.hi (L.part v) u i m = rGate L.lo L.hi v (fun k => u k * i) L.b m := by
  subst hi
  unfold kGate rGate rLin Lin.part
  rw [coe_mul_sum _ r hr]
  refine congrArg Ideal.logistic ?_
  have : ∀ k, (r : EReal) * (u k * L.hi k m) = u k * r * L.hi k m := fun k => by rw [← mul_assoc, mul_comm (r : EReal)]
  simp only [this]
  abel

/-- The kernel's candidate is the reference's. -/
theorem kCand_eq (i : EReal) (r : ℝ) (hr : 0 ≤ r) (hi : i = r) (m : Fin 512) :
    kCand Lu.hi Lr.hi (Lu.part v) (Lr.part v) u i m = rCand Lu Lr v (fun k => u k * i) m := by
  unfold kCand rCand rLin
  simp only [kGate_eq Lr v u i r hr hi]
  unfold Lin.part
  refine congrArg Ideal.tanh ?_
  abel

/-- A gate is a real between zero and one. -/
theorem rGate_real (m : Fin 512) : ∃ r : ℝ, rGate L.lo L.hi v u L.b m = r ∧ 0 ≤ r ∧ r ≤ 1 := logistic_real _

/-- A candidate entry is a real number. -/
theorem rCand_real (m : Fin 512) : ∃ r : ℝ, rCand Lu Lr v u m = r := tanh_real _

/-! ## The updated row -/

/-- The kernel's update of an entry. -/
def kMix (w up ca x : EReal) : EReal := x + w * cHalf * up * (ca - x)
/-- The reference's update of an entry. -/
def rMix (w up ca x : EReal) : EReal := x * (1 - w * cHalf) + ((1 - up) * x + up * ca) * (w * cHalf)

/-- On real numbers the two mixtures are equal. -/
theorem mix_real (w up ca x : ℝ) : kMix w up ca x = rMix w up ca x := by
  unfold kMix rMix
  rw [cHalf_eq]
  norm_cast
  ring

/-- Neither update of an infinite entry is finite. -/
theorem kMix_inf (w up ca : ℝ) (hw : 0 < w) (hup : 0 ≤ up) (x : EReal) (hx : x = ⊤ ∨ x = ⊥) : kMix w up ca x = ⊤ ∨ kMix w up ca x = ⊥ := by
  unfold kMix
  rw [cHalf_eq]
  have e : (w : EReal) * ((1 / 2 : ℝ) : EReal) * up = ((w * (1 / 2) * up : ℝ) : EReal) := by norm_cast
  rw [e]
  rcases hup.eq_or_lt with h0 | h0
  · subst h0
    rcases hx with rfl | rfl <;> simp
  · have hp : 0 < w * (1 / 2) * up := by positivity
    rcases hx with rfl | rfl
    · right
      rw [sub_eq_add_neg, EReal.neg_top, EReal.add_bot, EReal.coe_mul_bot_of_pos hp]; simp
    · right
      simp

/-- The reference's update of an infinite entry is infinite too. -/
theorem rMix_inf (w up ca : ℝ) (hw : 0 < w) (hw1 : w ≤ 1) (hup : 0 ≤ up) (hup1 : up ≤ 1) (x : EReal) (hx : x = ⊤ ∨ x = ⊥) : rMix w up ca x = ⊤ ∨ rMix w up ca x = ⊥ := by
  unfold rMix
  rw [cHalf_eq]
  have e1 : (w : EReal) * ((1 / 2 : ℝ) : EReal) = ((w * (1 / 2) : ℝ) : EReal) := by norm_cast
  have e2 : (1 : EReal) - ((w * (1 / 2) : ℝ) : EReal) = ((1 - w * (1 / 2) : ℝ) : EReal) := by norm_cast
  have e3 : (1 : EReal) - (up : EReal) = ((1 - up : ℝ) : EReal) := by norm_cast
  have e4 : (up : EReal) * ca = ((up * ca : ℝ) : EReal) := by norm_cast
  rw [e1, e2, e3, e4]
  have hp : 0 < w * (1 / 2) := by positivity
  have hq : 0 < 1 - w * (1 / 2) := by linarith
  rcases (sub_nonneg.2 hup1).eq_or_lt with h0 | h0
  · rw [← h0]
    rcases hx with rfl | rfl
    · left
      rw [EReal.top_mul_coe_of_pos hq]; simp only [EReal.coe_zero, zero_mul, zero_add]; norm_cast
    · right
      rw [EReal.bot_mul_coe_of_pos hq]; simp
  · rcases hx with rfl | rfl
    · left
      rw [EReal.top_mul_coe_of_pos hq, EReal.coe_mul_top_of_pos h0, EReal.top_add_coe, EReal.top_mul_coe_of_pos hp]; rfl
    · right
      rw [EReal.bot_mul_coe_of_pos hq]; simp

/-- The kernel's update of a row and the reference's of the same row end, each divided by its norm, at the same row. -/
theorem row_eq (i : EReal) (r : ℝ) (hr : 0 ≤ r) (hi : i = r) (s : Fin 64 → EReal) (n : Fin 64) (m : Fin 512) :
    rRow (rNew Lg Lu Lr v (fun k => u k * i) (wgt s n)) m
      = kRow Lg.hi Lu.hi Lr.hi (Lg.part v) (Lu.part v) (Lr.part v) u i (kept s n) m
        * kInv (kRow Lg.hi Lu.hi Lr.hi (Lg.part v) (Lu.part v) (Lr.part v) u i (kept s n)) := by
  rw [rRow_eq]
  have hk : ∀ m, kRow Lg.hi Lu.hi Lr.hi (Lg.part v) (Lu.part v) (Lr.part v) u i (kept s n) m
      = kMix (kept s n) (rGate Lg.lo Lg.hi v (fun k => u k * i) Lg.b m) (rCand Lu Lr v (fun k => u k * i) m) (u m * i) := fun m => by
    unfold kRow kMix
    rw [kGate_eq Lg v u i r hr hi, kCand_eq Lu Lr v u i r hr hi]
  by_cases hw : cMin < wgt s n
  · have hn : ∀ m, rNew Lg Lu Lr v (fun k => u k * i) (wgt s n) m
        = rMix (wgt s n) (rGate Lg.lo Lg.hi v (fun k => u k * i) Lg.b m) (rCand Lu Lr v (fun k => u k * i) m) (u m * i) := fun m => if_pos hw
    have hkept : kept s n = wgt s n := if_pos hw
    obtain ⟨w, ew, w0, w1⟩ := wgt_real s n hw
    rw [hkept, ew] at hk
    rw [ew] at hn
    rw [hkept, ew]
    by_cases hf : ∀ m, ∃ x : ℝ, u m * i = x
    · have : rNew Lg Lu Lr v (fun k => u k * i) w = kRow Lg.hi Lu.hi Lr.hi (Lg.part v) (Lu.part v) (Lr.part v) u i w := by
        funext m
        obtain ⟨x, ex⟩ := hf m
        obtain ⟨p, ep, _⟩ := rGate_real Lg v (fun k => u k * i) m
        obtain ⟨q, eq⟩ := rCand_real Lu Lr v (fun k => u k * i) m
        rw [hk, hn, ep, eq, ex, mix_real]
      rw [this]
    · push Not at hf
      obtain ⟨k, hk'⟩ := hf
      have hx : u k * i = ⊤ ∨ u k * i = ⊥ := by
        generalize u k * i = x at hk'
        induction x with
        | bot => exact .inr rfl
        | top => exact .inl rfl
        | coe x => exact absurd rfl (hk' x)
      obtain ⟨p, ep, p0, p1⟩ := rGate_real Lg v (fun k => u k * i) k
      obtain ⟨q, eq⟩ := rCand_real Lu Lr v (fun k => u k * i) k
      rw [kInv_top _ k (by rw [hn, ep, eq]; exact rMix_inf w p q w0 w1 p0 p1 _ hx),
        kInv_top _ k (by rw [hk, ep, eq]; exact kMix_inf w p q w0 p0 _ hx), mul_zero, mul_zero]
  · have hkept : kept s n = 0 := if_neg hw
    have : rNew Lg Lu Lr v (fun k => u k * i) (wgt s n)
        = kRow Lg.hi Lu.hi Lr.hi (Lg.part v) (Lu.part v) (Lr.part v) u i (kept s n) := by
      funext m
      rw [hk, hkept]
      unfold kMix
      rw [zero_mul, zero_mul, zero_mul, add_zero]
      exact if_neg hw
    rw [this]

/-! ## The step -/

/-- The kernel's carried values and the reference's hold the same memory, usage and age, the former with its products with the
input `x`; the factors are nonnegative reals, the usage and the age real. -/
structure Same (x : Row) (K : KState) (R : RState) : Prop where
  inv : ∀ n, ∃ r : ℝ, 0 ≤ r ∧ K.inv n = r
  mem : ∀ n m, R.mem n m = K.U n m * K.inv n
  us : R.us = K.us
  ag : R.ag = K.ag
  us_real : ∀ n, ∃ r : ℝ, K.us n = r
  ag_real : ∀ n, ∃ r : ℝ, K.ag n = r
  sim : ∀ n, K.sim n = ∑ m, x m * R.mem n m

/-- A product with an input by the factor is the product of the row by its factor. -/
theorem kSim_eq (u x : Row) : kSim u x = ∑ m, x m * (u m * kInv u) := by
  obtain ⟨r, hr, e⟩ := kInv_real u
  rw [kSim, e, mul_comm, coe_mul_sum _ r hr]
  refine Finset.sum_congr rfl fun m _ => ?_
  rw [mul_comm (u m) (x m), mul_comm (r : EReal), mul_assoc]

/-- The two programs' scores are equal. -/
theorem score_eq {x : Row} {K : KState} {R : RState} (h : Same x K R) : rScore x R.mem R.us R.ag = kScore K.sim K.us K.ag := by
  funext n
  unfold rScore kScore
  obtain ⟨a, ea⟩ := h.us_real n
  obtain ⟨b, eb⟩ := h.ag_real n
  obtain ⟨p, ep⟩ := cUse_real
  obtain ⟨q, eq⟩ := cAge_real
  rw [h.us, h.ag, h.sim, ea, eb, ep, eq]
  generalize ∑ m, x m * R.mem n m = s
  induction s with
  | bot => rw [EReal.bot_sub, EReal.bot_sub]; norm_cast
  | top => norm_cast
  | coe s => norm_cast; ring

/-- A step keeps them so, for whatever input comes next. -/
theorem same_step {x : Row} {K : KState} {R : RState} (h : Same x K R) (x' : Row) :
    Same x' (kStep Lg.hi Lu.hi Lr.hi (Lg.part v) (Lu.part v) (Lr.part v) x' K) (rStep Lg Lu Lr x v R) := by
  have hw : R.w x = wgt (kScore K.sim K.us K.ag) := by unfold RState.w; rw [score_eq h]
  have hmem : ∀ n m, (rStep Lg Lu Lr x v R).mem n m
      = (kStep Lg.hi Lu.hi Lr.hi (Lg.part v) (Lu.part v) (Lr.part v) x' K).U n m * (kStep Lg.hi Lu.hi Lr.hi (Lg.part v) (Lu.part v) (Lr.part v) x' K).inv n := fun n m => by
    obtain ⟨r, hr, e⟩ := h.inv n
    show rRow (rNew Lg Lu Lr v (R.mem n) (R.w x n)) m = _
    rw [hw, show R.mem n = fun k => K.U n k * K.inv n from funext (h.mem n)]
    exact row_eq Lg Lu Lr v (K.U n) (K.inv n) r hr e _ n m
  refine ⟨fun n => kInv_real _, hmem, ?_, ?_, fun n => ?_, fun n => ?_, fun n => ?_⟩
  · funext n
    show (R.us n + if cMin < R.w x n then R.w x n else 0) * dUse = _
    rw [hw, h.us]; rfl
  · funext n
    show R.ag n * dAge + 1 = _
    rw [h.ag]; rfl
  · obtain ⟨a, ea⟩ := h.us_real n
    obtain ⟨b, eb⟩ := kept_real (kScore K.sim K.us K.ag) n
    obtain ⟨p, ep⟩ := dUse_real
    refine ⟨(a + b) * p, ?_⟩
    show (K.us n + kept (kScore K.sim K.us K.ag) n) * dUse = _
    rw [ea, eb, ep]; norm_cast
  · obtain ⟨a, ea⟩ := h.ag_real n
    obtain ⟨p, ep⟩ := dAge_real
    refine ⟨a * p + 1, ?_⟩
    show K.ag n * dAge + 1 = _
    rw [ea, ep]; norm_cast
  · simp only [hmem]
    exact kSim_eq _ _

end Cert.Model

end
-- ==== Proof.KernelStep.lean ====
module

public import proofs.«01_k».proof.Proof.Final
public import proofs.«01_k».proof.Proof.Step

/-! # The kernel's trip, batch by batch -/

@[expose] public section

set_option maxRecDepth 16384

noncomputable section

namespace Cert.KernelIdeal.Value

open Cert.KernelIdeal Cert.KernelIdeal.Gen Idealize.ShloMosaic Idealize.ShloMosaic.TcCoe Idealize.SL.Sem
open Cert.Model

/-- The half a batch lies in, read at the batch's place there: 0 and 1 in the first, 2 and 3 in the second. -/
def half {α : Type} (lo hi : Fin 2 → α) (b : Fin 4) : α :=
  if h : b.val < 2 then lo ⟨b.val, h⟩ else hi ⟨b.val - 2, by omega⟩

/-- What the loop carries for batch `b`. -/
def stateOf (a : Carry Ideal) (b : Fin 4) : KState where
  U n m := half (fun b => a.1 (ix3 b n m)) (fun b => a.2.1 (ix3 b n m)) b
  inv n := half (fun b => a.2.2.1 (ix3 b n 0)) (fun b => a.2.2.2.1 (ix3 b n 0)) b
  sim n := half (fun b => a.2.2.2.2.1 (ix2 b n)) (fun b => a.2.2.2.2.2.1 (ix2 b n)) b
  us n := a.2.2.2.2.2.2.1 (ix2 b n)
  ag n := a.2.2.2.2.2.2.2 (ix2 b n)

/-- A square matrix by input and output. -/
def matOf (w : Vec Ideal S512x512 .f32) : Mat := fun k m => w (ix2 k m)
/-- A step's input row for batch `b`. -/
def inRow (x : Vec Ideal S1x4x512 .f32) (b : Fin 4) : Row := fun m => x (ix3 0 b m)

variable (wg wu wr : Vec Ideal S512x512 .f32) (mi xg xu xr : Vec Ideal S1x4x512 .f32) (a : Carry Ideal)

/-- The weights that count. -/
theorem pay16_apply (b : Fin 4) (n : Fin 64) :
    k0_pay16 (F := Ideal) a.2.2.2.2.1 a.2.2.2.2.2.1 a.2.2.2.2.2.2.1 a.2.2.2.2.2.2.2 (ix2 b n) = (stateOf a b).w n := by
  obtain ⟨a1, a2, a3, a4, a5, a6, a7, a8⟩ := a
  unfold KState.w kept wgt top kScore stateOf half
  pointwise [k0_pay16]

/-- The epsilon the kernel squares. -/
theorem named_eps : (Named.named (F := Ideal) (φ := .f32) κ "eps_sq" 0x179ABE15#32 : EReal) = epsSq := by
  rw [IdealRules.named_const.ideal_named_scalar κ "eps_sq" _ _ rfl, epsSq_eq]
  norm_num

/-- The first half's updated rows. -/
theorem rowA (b : Fin 2) (n : Fin 64) (m : Fin 512) : (tripOf wg wu wr mi xg xu xr a).1 (ix3 b n m)
    = kRow (matOf wg) (matOf wu) (matOf wr) (inRow xg ⟨b.val, by omega⟩) (inRow xu ⟨b.val, by omega⟩) (inRow xr ⟨b.val, by omega⟩) (fun m => a.1 (ix3 b n m)) (a.2.2.1 (ix3 b n 0))
      ((stateOf a ⟨b.val, by omega⟩).w n) m := by
  rw [← pay16_apply]
  unfold tripOf kRow kGate kCand matOf inRow
  dsimp only
  pointwise [k0_pay24, k0_pay18, k0_pay19, k0_pay20, k0_pay12, k0_pay13, k0_pay14, k0_pay21, k0_pay17, k0_pay23]
  rfl

/-- The second half's updated rows. -/
theorem rowB (b : Fin 2) (n : Fin 64) (m : Fin 512) : (tripOf wg wu wr mi xg xu xr a).2.1 (ix3 b n m)
    = kRow (matOf wg) (matOf wu) (matOf wr) (inRow xg ⟨2 + b.val, by omega⟩) (inRow xu ⟨2 + b.val, by omega⟩) (inRow xr ⟨2 + b.val, by omega⟩) (fun m => a.2.1 (ix3 b n m)) (a.2.2.2.1 (ix3 b n 0))
      ((stateOf a ⟨2 + b.val, by omega⟩).w n) m := by
  rw [← pay16_apply]
  unfold tripOf kRow kGate kCand matOf inRow
  dsimp only
  pointwise [k0_pay5, k0_pay27, k0_pay14, k0_pay28, k0_pay12, k0_pay29, k0_pay13, k0_pay30, k0_pay17, k0_pay32, k0_pay33, k0_pay34]
  rfl

/-- The first half's factors, from its updated rows. -/
theorem invA (b : Fin 2) (n : Fin 64) : (tripOf wg wu wr mi xg xu xr a).2.2.1 (ix3 b n 0)
    = kInv (fun m => (tripOf wg wu wr mi xg xu xr a).1 (ix3 b n m)) := by
  unfold tripOf kInv
  rw [← named_eps]
  dsimp only
  unfold k0_pay25
  generalize k0_pay24 (F := Ideal) _ _ _ _ _ _ _ _ _ _ _ = U
  pointwise []

/-- The second half's factors, from its updated rows. -/
theorem invB (b : Fin 2) (n : Fin 64) : (tripOf wg wu wr mi xg xu xr a).2.2.2.1 (ix3 b n 0)
    = kInv (fun m => (tripOf wg wu wr mi xg xu xr a).2.1 (ix3 b n m)) := by
  unfold tripOf kInv
  rw [← named_eps]
  dsimp only
  unfold k0_pay6
  generalize k0_pay5 (F := Ideal) _ _ _ _ _ _ _ _ _ = U
  pointwise []

/-- The first half's products with the next input, from its updated rows. -/
theorem simA (b : Fin 2) (n : Fin 64) : (tripOf wg wu wr mi xg xu xr a).2.2.2.2.1 (ix2 b n)
    = kSim (fun m => (tripOf wg wu wr mi xg xu xr a).1 (ix3 b n m)) (inRow mi ⟨b.val, by omega⟩) := by
  unfold kSim
  rw [← invA]
  unfold tripOf inRow
  dsimp only
  unfold k0_pay26
  generalize k0_pay24 (F := Ideal) _ _ _ _ _ _ _ _ _ _ _ = U
  generalize k0_pay25 (F := Ideal) _ _ _ _ _ _ _ _ _ _ _ = I
  pointwise [k0_pay22, k0_pay15]

/-- The second half's products with the next input, from its updated rows. -/
theorem simB (b : Fin 2) (n : Fin 64) : (tripOf wg wu wr mi xg xu xr a).2.2.2.2.2.1 (ix2 b n)
    = kSim (fun m => (tripOf wg wu wr mi xg xu xr a).2.1 (ix3 b n m)) (inRow mi ⟨2 + b.val, by omega⟩) := by
  unfold kSim
  rw [← invB]
  unfold tripOf inRow
  dsimp only
  unfold k0_pay7
  generalize k0_pay5 (F := Ideal) _ _ _ _ _ _ _ _ _ = U
  generalize k0_pay6 (F := Ideal) _ _ _ _ _ _ _ _ _ = I
  pointwise [k0_pay31, k0_pay15]

/-- A trip takes each batch's carried values by the kernel's step. -/
theorem stateOf_trip (b : Fin 4) : stateOf (tripOf wg wu wr mi xg xu xr a) b
    = kStep (matOf wg) (matOf wu) (matOf wr) (inRow xg b) (inRow xu b) (inRow xr b) (inRow mi b) (stateOf a b) := by
  have hu : ∀ n, (tripOf wg wu wr mi xg xu xr a).2.2.2.2.2.2.1 (ix2 b n) = ((stateOf a b).us n + (stateOf a b).w n) * dUse := fun n => by
    rw [← pay16_apply]
    unfold tripOf stateOf
    dsimp only
    generalize k0_pay16 (F := Ideal) a.2.2.2.2.1 a.2.2.2.2.2.1 a.2.2.2.2.2.2.1 a.2.2.2.2.2.2.2 = w
    pointwise [k0_pay8]
  have ha : ∀ n, (tripOf wg wu wr mi xg xu xr a).2.2.2.2.2.2.2 (ix2 b n) = (stateOf a b).ag n * dAge + 1 := fun n => by
    unfold tripOf stateOf
    dsimp only
    pointwise [k0_pay9]
  have hU : ∀ n m, (stateOf (tripOf wg wu wr mi xg xu xr a) b).U n m
      = kRow (matOf wg) (matOf wu) (matOf wr) (inRow xg b) (inRow xu b) (inRow xr b) ((stateOf a b).U n) ((stateOf a b).inv n) ((stateOf a b).w n) m := fun n m => by
    rcases Nat.lt_or_ge b.val 2 with h | h
    · have e := rowA wg wu wr mi xg xu xr a ⟨b.val, h⟩ n m
      simp only [stateOf, half, dif_pos h] at e ⊢
      exact e
    · have e := rowB wg wu wr mi xg xu xr a ⟨b.val - 2, by omega⟩ n m
      have hb : (⟨2 + (b.val - 2), by omega⟩ : Fin 4) = b := Fin.ext (by show 2 + (b.val - 2) = b.val; omega)
      simp only [hb] at e
      simp only [stateOf, half, dif_neg (show ¬ b.val < 2 by omega)] at e ⊢
      exact e
  have hi : ∀ n, (stateOf (tripOf wg wu wr mi xg xu xr a) b).inv n = kInv ((stateOf (tripOf wg wu wr mi xg xu xr a) b).U n) := fun n => by
    unfold stateOf half
    dsimp only
    split_ifs with h
    · exact invA ..
    · exact invB ..
  have hs : ∀ n, (stateOf (tripOf wg wu wr mi xg xu xr a) b).sim n = kSim ((stateOf (tripOf wg wu wr mi xg xu xr a) b).U n) (inRow mi b) := fun n => by
    unfold stateOf half
    dsimp only
    split_ifs with h
    · exact simA ..
    · rw [simB]
      refine congrArg₂ kSim rfl (congrArg (inRow mi) (Fin.ext ?_))
      show 2 + (b.val - 2) = b.val
      omega
  have hU' := fun n => funext (hU n)
  have h1 : (stateOf (tripOf wg wu wr mi xg xu xr a) b).U = _ := funext hU'
  have h2 : (stateOf (tripOf wg wu wr mi xg xu xr a) b).inv = _ := funext fun n => (hi n).trans (congrArg kInv (hU' n))
  have h3 : (stateOf (tripOf wg wu wr mi xg xu xr a) b).sim = _ := funext fun n => (hs n).trans (congrArg (kSim · (inRow mi b)) (hU' n))
  exact KState.mk.injEq .. ▸ ⟨h1, h2, h3, funext hu, funext ha⟩

end Cert.KernelIdeal.Value

end
-- ==== Proof.Inputs.lean ====
module

public import proofs.«01_k».proof.Proof.KernelStep

/-! # The kernel's tables, batch by batch and time by time -/

@[expose] public section

set_option maxRecDepth 16384

noncomputable section

namespace Cert.KernelIdeal.Value

open Cert.KernelIdeal Cert.KernelIdeal.Gen Idealize.ShloMosaic Idealize.ShloMosaic.TcCoe Idealize.SL.Sem
open Cert.Model

variable (x0 : Vec Ideal S4x32x1024 .f32) (x1 : Vec Ideal S4x64x512 .f32) (x2 x3 x4 x5 x6 : Vec Ideal S512x1024 .f32)
  (x7 x8 x9 x10 x11 : Vec Ideal S1x512 .f32)

/-- The row number of a batch and a time. -/
abbrev rowNo (b : Fin 4) (t : ℕ) (ht : t < 32) : Fin 128 := ⟨32 * b.val + t, by omega⟩

/-- The loop's time offsets. -/
theorem off1_eq : ∀ k : Fin k0_t1_loop.trips, k0_off1 k 0 = k.val := by decide
/-- The offset of the next time. -/
theorem off2_eq : ∀ k : Fin k0_t1_loop.trips, k0_off2 k 0 = k.val + 1 := by decide

/-- A gate table's row at a time. -/
theorem gateRow_apply (v : FVec Ideal S128x512 .f32) (t : ℕ) (ht : t < 32) (b : Fin 4) (m : Fin 512) :
    inRow (gateRow (batchTable v) ⟨t, ht⟩) b m = v (ix2 (rowNo b t ht) m) := by
  unfold inRow gateRow batchTable
  refine congrArg v (congrArg₂ ix2 (Fin.ext ?_) (Fin.ext ?_))
  · show 32 * (0 + 1 * b.val) + (k0_off1 ⟨t, ht⟩ 0 + 1 * 0) = 32 * b.val + t
    rw [off1_eq]
    show 32 * (0 + 1 * b.val) + (t + 1 * 0) = 32 * b.val + t
    omega
  · show 0 + 1 * m.val = m.val
    omega

/-- The input table's rows: the first, and at a trip the next time's while there is one. -/
theorem nextRow_apply (v : FVec Ideal S128x512 .f32) (t : ℕ) (ht : t + 1 < 32) (b : Fin 4) (m : Fin 512) :
    inRow (nextRow (inTable v) ⟨t, by show t < 32; omega⟩) b m = v (ix2 (rowNo b (t + 1) ht) m) := by
  have h : k0_off2 ⟨t, by show t < 32; omega⟩ 0 = t + 1 := off2_eq _
  unfold inRow nextRow inTable
  refine (dif_pos (show k0_off2 ⟨t, by show t < 32; omega⟩ 0 + 1 * 0 < 32 by omega)).trans ?_
  refine congrArg v (congrArg₂ ix2 (Fin.ext ?_) (Fin.ext ?_))
  · show 32 * (0 + 1 * b.val) + (k0_off2 ⟨t, _⟩ 0 + 1 * 0) = 32 * b.val + (t + 1)
    omega
  · show 0 + 1 * m.val = m.val
    omega

/-- The input table's row at time zero. -/
theorem firstRow_apply (v : FVec Ideal S128x512 .f32) (b : Fin 4) (m : Fin 512) :
    inRow (View.ld (Val := Elt Ideal) (S := S33x4x512) (e' := .f32) (inTable v) (Rect.unit ![0, 0, 0] S1x4x512.size inb_S33x4x512_S1x4x512_0_0_0)) b m = v (ix2 (rowNo b 0 (by omega)) m) := by
  unfold inRow inTable
  refine (dif_pos (show 0 + 1 * 0 < 32 by omega)).trans ?_
  refine congrArg v (congrArg₂ ix2 (Fin.ext ?_) (Fin.ext ?_))
  · show 32 * (0 + 1 * b.val) + (0 + 1 * 0) = 32 * b.val + 0
    omega
  · show 0 + 1 * m.val = m.val
    omega

/-- A stored weight matrix by output and input, and a stored bias. -/
def wOf (W : Vec Ideal S512x1024 .f32) (m : Fin 512) (d : Fin 1024) : EReal := W (ix2 m d)
/-- A stored bias. -/
def bOf (b : Vec Ideal S1x512 .f32) : Row := fun m => b (ix2 0 m)
/-- Batch `b`'s input at a time. -/
def xOf (b : Fin 4) (t : ℕ) (ht : t < 32) (d : Fin 1024) : EReal := x0 (ix3 b ⟨t, ht⟩ d)

/-- The row number gives back its batch and time. -/
theorem rowNo_split (b : Fin 4) (t : ℕ) (ht : t < 32) (h1 h2) (d : Fin 1024) :
    x0 (ix3 ⟨(32 * b.val + t) / 32, h1⟩ ⟨(32 * b.val + t) % 32, h2⟩ d) = xOf x0 b t ht d :=
  congrArg x0 (congrArg₂ (ix3 · · d) (Fin.ext (by show (32 * b.val + t) / 32 = b.val; omega)) (Fin.ext (by show (32 * b.val + t) % 32 = t; omega)))

/-- The projected inputs. -/
theorem pay36_apply (b : Fin 4) (t : ℕ) (ht : t < 32) (m : Fin 512) :
    k0_pay36 x0 x2 x7 (ix2 (rowNo b t ht) m) = proj (xOf x0 b t ht) (wOf x2) (bOf x7) m := by
  unfold proj wOf bOf
  pointwise [k0_pay36, k0_pay35]
  simp only [rowNo_split x0 b t ht]

/-- The gate's input part at a row. -/
theorem pay38_apply (b : Fin 4) (t : ℕ) (ht : t < 32) (m : Fin 512) : k0_pay38 x0 x3 x8 (lowHalf x4) x9 (ix2 (rowNo b t ht) m)
    = (linOf (wOf x4) (bOf x9)).part (proj (xOf x0 b t ht) (wOf x3) (bOf x8)) m := by
  unfold Lin.part proj linOf wOf bOf lowHalf
  pointwise [k0_pay38, k0_pay37, k0_pay35]
  simp only [rowNo_split x0 b t ht]

/-- The update's input part at a row. -/
theorem pay39_apply (b : Fin 4) (t : ℕ) (ht : t < 32) (m : Fin 512) : k0_pay39 x0 x3 x8 (lowHalf x5) x10 (ix2 (rowNo b t ht) m)
    = (linOf (wOf x5) (bOf x10)).part (proj (xOf x0 b t ht) (wOf x3) (bOf x8)) m := by
  unfold Lin.part proj linOf wOf bOf lowHalf
  pointwise [k0_pay39, k0_pay37, k0_pay35]
  simp only [rowNo_split x0 b t ht]

/-- The reset's input part at a row. -/
theorem pay40_apply (b : Fin 4) (t : ℕ) (ht : t < 32) (m : Fin 512) : k0_pay40 x0 x3 x8 (lowHalf x6) x11 (ix2 (rowNo b t ht) m)
    = (linOf (wOf x6) (bOf x11)).part (proj (xOf x0 b t ht) (wOf x3) (bOf x8)) m := by
  unfold Lin.part proj linOf wOf bOf lowHalf
  pointwise [k0_pay40, k0_pay37, k0_pay35]
  simp only [rowNo_split x0 b t ht]

/-- The gate's weights that meet the memory, transposed. -/
theorem pay59_mat : matOf (k0_pay59 (highHalf x4)) = (linOf (wOf x4) (bOf x9)).hi := by
  funext k m
  unfold matOf highHalf linOf wOf
  pointwise [k0_pay59]

/-- The update's weights that meet the memory, transposed. -/
theorem pay60_mat : matOf (k0_pay60 (highHalf x5)) = (linOf (wOf x5) (bOf x10)).hi := by
  funext k m
  unfold matOf highHalf linOf wOf
  pointwise [k0_pay60]

/-- The reset's weights that meet the memory, transposed. -/
theorem pay61_mat : matOf (k0_pay61 (highHalf x6)) = (linOf (wOf x6) (bOf x11)).hi := by
  funext k m
  unfold matOf highHalf linOf wOf
  pointwise [k0_pay61]

/-- The memory's rows of batch `b`. -/
def memOf (x : Vec Ideal S4x64x512 .f32) (b : Fin 4) (n : Fin 64) : Row := fun m => x (ix3 b n m)

/-- What the loop starts from, batch by batch. -/
theorem stateOf_init (row0 : FVec Ideal S1x4x512 .f32) (b : Fin 4) :
    stateOf (initOf x1 row0) b = KState.mk (memOf x1 b) (fun _ => 1) (fun n => ∑ m, memOf x1 b n m * inRow row0 b m) (fun _ => 0) (fun _ => 0) := by
  have hb : ∀ b : Fin 4, ¬ b.val < 2 → (⟨2 + (b.val - 2), by omega⟩ : Fin 4) = b := fun b h => Fin.ext (by show 2 + (b.val - 2) = b.val; omega)
  unfold stateOf initOf half memOf inRow
  dsimp only
  refine congr (congr (congr (congr (congrArg KState.mk ?_) ?_) ?_) ?_) ?_
  · funext n m
    split_ifs with h
    · pointwise []
    · pointwise []
      exact congrArg (fun b => x1 (ix3 b n m)) (hb b h)
  · funext n
    split_ifs with h <;> pointwise [k0_pay4]
  · funext n
    split_ifs with h
    · pointwise [k0_pay2, k0_pay1]
    · pointwise [k0_pay3, k0_pay1]
      exact congrArg (fun b => ∑ m, x1 (ix3 b n m) * row0 (ix3 0 b m)) (hb b h)
  · funext n
    pointwise [k0_pay62]
  · funext n
    pointwise [k0_pay62]

/-- The launch's output, batch by batch. -/
theorem outOf_apply (a : Carry Ideal) (b : Fin 4) (n : Fin 64) (m : Fin 512) :
    outOf a (ix3 b n m) = (stateOf a b).U n m * (stateOf a b).inv n := by
  let g : S4x64x512.Idx → EReal := fun y =>
    (stateOf a ⟨(y 0).val, (y 0).isLt⟩).U ⟨(y 1).val, (y 1).isLt⟩ ⟨(y 2).val, (y 2).isLt⟩ * (stateOf a ⟨(y 0).val, (y 0).isLt⟩).inv ⟨(y 1).val, (y 1).isLt⟩
  refine View.canon_apply_of_pieces (Val := Elt Ideal) (S := S4x64x512) (e := .f32) g _ ?_ (ix3 b n m) (View.cover_of_tiledL (Val := Elt Ideal) (s := S4x64x512) (e := .f32) _ S2x64x512.size (by sl_kernel_rfl) _)
  have key : ∀ (b b' : Fin 4) (n n' : Fin 64) (m m' : Fin 512), b.val = b'.val → n.val = n'.val → m.val = m'.val →
      (stateOf a b).U n m * (stateOf a b).inv n = (stateOf a b').U n' m' * (stateOf a b').inv n' := by
    intro b b' n n' m m' h1 h2 h3
    rw [Fin.ext h1, Fin.ext h2, Fin.ext h3]
  intro p hp x
  simp only [List.mem_cons, List.not_mem_nil, or_false] at hp
  rcases hp with rfl | rfl
  · idx_vars x
    have e : g ((Rect.unit (s := S4x64x512) ![2, 0, 0] ![2, 64, 512] inb_S4x64x512_S2x64x512_2_0_0).emb (ix3 x0 x1 x2))
        = (stateOf a ⟨2 + x0.val, by omega⟩).U x1 x2 * (stateOf a ⟨2 + x0.val, by omega⟩).inv x1 :=
      key _ _ _ _ _ _ (by show 2 + 1 * x0.val = 2 + x0.val; omega) (by show 0 + 1 * x1.val = x1.val; omega) (by show 0 + 1 * x2.val = x2.val; omega)
    refine Eq.trans ?_ e.symm
    simp only [stateOf, half, dif_neg (show ¬ 2 + x0.val < 2 by omega), Nat.add_sub_cancel_left]
    pointwise [k0_pay11]
  · idx_vars x
    have e : g ((Rect.unit (s := S4x64x512) ![0, 0, 0] ![2, 64, 512] inb_S4x64x512_S2x64x512_0_0_0).emb (ix3 x0 x1 x2))
        = (stateOf a ⟨0 + x0.val, by omega⟩).U x1 x2 * (stateOf a ⟨0 + x0.val, by omega⟩).inv x1 :=
      key _ _ _ _ _ _ (by show 0 + 1 * x0.val = 0 + x0.val; omega) (by show 0 + 1 * x1.val = x1.val; omega) (by show 0 + 1 * x2.val = x2.val; omega)
    refine Eq.trans ?_ e.symm
    simp only [stateOf, half, dif_pos (show 0 + x0.val < 2 by omega), Nat.zero_add]
    pointwise [k0_pay10]

end Cert.KernelIdeal.Value

end
-- ==== Proof.KernelRun.lean ====
module

public import proofs.«01_k».proof.Proof.Inputs

/-! # The kernel's output is the reference's memory after 32 steps -/

@[expose] public section

set_option maxRecDepth 16384

noncomputable section

namespace Cert.KernelIdeal.Value

open Cert.KernelIdeal Cert.KernelIdeal.Gen Idealize.ShloMosaic Idealize.ShloMosaic.TcCoe Idealize.SL.Sem
open Cert.Model

variable (x0 : Vec Ideal S4x32x1024 .f32) (x1 : Vec Ideal S4x64x512 .f32) (x2 x3 x4 x5 x6 : Vec Ideal S512x1024 .f32)
  (x7 x8 x9 x10 x11 : Vec Ideal S1x512 .f32)

/-- The reference's state for batch `b` after `n` steps, over the arrays the kernel is given. -/
def rOf (b : Fin 4) (n : ℕ) : RState :=
  rAt (linOf (wOf x4) (bOf x9)) (linOf (wOf x5) (bOf x10)) (linOf (wOf x6) (bOf x11))
    (seqOf (fun t d => x0 (ix3 b t d)) (wOf x2) (bOf x7)) (seqOf (fun t d => x0 (ix3 b t d)) (wOf x3) (bOf x8)) (rInit (memOf x1 b)) n

/-- Before trip `n` the kernel and the reference hold the same memory. -/
theorem same_at (b : Fin 4) (n : ℕ) (hn : n ≤ 32) :
    ∃ x, Same x (stateOf (carry x0 x1 x2 x3 x4 x5 x6 x7 x8 x9 x10 x11 n) b) (rOf x0 x1 x2 x3 x4 x5 x6 x7 x8 x9 x10 x11 b n)
      ∧ (n < 32 → x = seqOf (fun t d => x0 (ix3 b t d)) (wOf x2) (bOf x7) n) := by
  induction n with
  | zero =>
    refine ⟨_, ?_, fun h => rfl⟩
    show Same _ (stateOf (initOf x1 _) b) (rInit (memOf x1 b))
    rw [stateOf_init]
    refine ⟨fun n => ⟨1, by norm_num, rfl⟩, fun n m => (mul_one _).symm, rfl, rfl, fun n => ⟨0, rfl⟩, fun n => ⟨0, rfl⟩, fun n => ?_⟩
    dsimp only
    refine Finset.sum_congr rfl fun m _ => ?_
    refine (mul_comm _ _).trans (congrArg (· * memOf x1 b n m) ?_)
    refine (firstRow_apply (k0_pay36 x0 x2 x7) b m).trans ((pay36_apply ..).trans ?_)
    rfl
  | succ n ih =>
    obtain ⟨x, h, hx⟩ := ih (Nat.le_of_succ_le hn)
    have hlt : n < 32 := hn
    obtain rfl := hx hlt
    have hk : stateOf (carry x0 x1 x2 x3 x4 x5 x6 x7 x8 x9 x10 x11 (n + 1)) b
        = kStep (linOf (wOf x4) (bOf x9)).hi (linOf (wOf x5) (bOf x10)).hi (linOf (wOf x6) (bOf x11)).hi
          ((linOf (wOf x4) (bOf x9)).part (seqOf (fun t d => x0 (ix3 b t d)) (wOf x3) (bOf x8) n))
          ((linOf (wOf x5) (bOf x10)).part (seqOf (fun t d => x0 (ix3 b t d)) (wOf x3) (bOf x8) n))
          ((linOf (wOf x6) (bOf x11)).part (seqOf (fun t d => x0 (ix3 b t d)) (wOf x3) (bOf x8) n))
          (inRow (nextRow (mIn x0 x2 x7) ⟨n, hlt⟩) b) (stateOf (carry x0 x1 x2 x3 x4 x5 x6 x7 x8 x9 x10 x11 n) b) := by
      have hs : seqOf (fun t d => x0 (ix3 b t d)) (wOf x3) (bOf x8) n = proj (xOf x0 b n hlt) (wOf x3) (bOf x8) := dif_pos hlt
      rw [hs]
      conv_lhs => rw [carry, carryAt, dif_pos (show n < k0_t1_loop.trips from hlt), stateOf_trip]
      rw [pay59_mat x4 x9, pay60_mat x5 x10, pay61_mat x6 x11]
      have h1 : inRow (gateRow (gIn x0 x3 x4 x8 x9) ⟨n, hlt⟩) b = _ := funext fun m =>
        (gateRow_apply (k0_pay38 x0 x3 x8 (lowHalf x4) x9) n hlt b m).trans (pay38_apply x0 x3 x4 x8 x9 b n hlt m)
      have h2 : inRow (gateRow (uIn x0 x3 x5 x8 x10) ⟨n, hlt⟩) b = _ := funext fun m =>
        (gateRow_apply (k0_pay39 x0 x3 x8 (lowHalf x5) x10) n hlt b m).trans (pay39_apply x0 x3 x5 x8 x10 b n hlt m)
      have h3 : inRow (gateRow (rIn x0 x3 x6 x8 x11) ⟨n, hlt⟩) b = _ := funext fun m =>
        (gateRow_apply (k0_pay40 x0 x3 x8 (lowHalf x6) x11) n hlt b m).trans (pay40_apply x0 x3 x6 x8 x11 b n hlt m)
      rw [h1, h2, h3]
      rfl
    refine ⟨_, hk ▸ same_step _ _ _ _ h _, fun hn' => ?_⟩
    funext m
    refine (nextRow_apply (k0_pay36 x0 x2 x7) n hn' b m).trans ((pay36_apply ..).trans ?_)
    unfold seqOf
    rw [dif_pos hn']
    rfl

/-- The kernel's output is the reference's memory after 32 steps. -/
theorem out_apply (b : Fin 4) (n : Fin 64) (m : Fin 512) :
    outOf (carry x0 x1 x2 x3 x4 x5 x6 x7 x8 x9 x10 x11 32) (ix3 b n m)
      = (rOf x0 x1 x2 x3 x4 x5 x6 x7 x8 x9 x10 x11 b 32).mem n m := by
  obtain ⟨x, h, _⟩ := same_at x0 x1 x2 x3 x4 x5 x6 x7 x8 x9 x10 x11 b 32 le_rfl
  rw [outOf_apply, h.mem]

end Cert.KernelIdeal.Value

end
-- ==== Proof.Reference.lean ====
module

public import proofs.«01_k».proof.Proof.Gen.ReferenceIdeal.Run
public import proofs.«01_k».proof.Proof.Model
public import Idealize.ShloMosaic.Lib.Pointwise
public import Idealize.ShloMosaic.Lib.Tactic.CleanTypes

/-! # The reference's step, batch by batch -/

@[expose] public section

set_option maxRecDepth 16384

noncomputable section

namespace Cert.ReferenceIdeal.Value

open Cert.ReferenceIdeal Idealize.ShloMosaic Idealize.ShloMosaic.TcCoe Idealize.SL.Sem Idealize.ShloMosaic.StableHlo
open Cert.Model

/-- A weight matrix by output and input. -/
def wAt (W : Vec Ideal S512x1024 .f32) (m : Fin 512) (d : Fin 1024) : EReal := W (ix2 m d)
/-- A bias. -/
def bAt (b : Vec Ideal S512 .f32) : Row := fun m => b (ix1 m)
/-- A batch's input at a time. -/
def xAt (x : Vec Ideal S4x32x1024 .f32) (b : Fin 4) (t : Fin 32) (d : Fin 1024) : EReal := x (ix3 b t d)
/-- A batch's rows. -/
def rowAt (x : Vec Ideal S4x64x512 .f32) (b : Fin 4) (n : Fin 64) : Row := fun m => x (ix3 b n m)
/-- A batch's value for each row. -/
def colAt (x : Vec Ideal S4x64 .f32) (b : Fin 4) (n : Fin 64) : EReal := x (ix2 b n)

variable (V0 : Valuation τ sig (Elt Ideal))

/-- What the loop carries for batch `b`. -/
def stAt (b : Fin 4) : RState where
  mem := rowAt (V0 (Proc.devRef .tc main_v1_13)) b
  us := colAt (V0 (Proc.devRef .tc main_v1_14)) b
  ag := colAt (V0 (Proc.devRef .tc main_v1_15)) b

/-- The gate's layer. -/
def lG : Lin := linOf (wAt (V0 (Proc.devRef .tc main_v1_7))) (bAt (V0 (Proc.devRef .tc main_v1_8)))
/-- The candidate's layer. -/
def lU : Lin := linOf (wAt (V0 (Proc.devRef .tc main_v1_9))) (bAt (V0 (Proc.devRef .tc main_v1_10)))
/-- The reset's layer. -/
def lR : Lin := linOf (wAt (V0 (Proc.devRef .tc main_v1_5))) (bAt (V0 (Proc.devRef .tc main_v1_6)))

/-- The input row read at time `t`. -/
theorem v14_apply (t : Fin 32) (ht : (V0 (Proc.devRef .tc main_v1_12) : Vec Ideal S_ .i32) = fun _ => BitVec.ofNat 32 t.val) (b : Fin 4) (d : Fin 1024) :
    (res_main_while0b_v14 V0 : Vec Ideal S4x1024 .f32) (ix2 b d) = xAt (V0 (Proc.devRef .tc main_v1_0)) b t d := by
  unfold res_main_while0b_v14 res_main_while0b_v3 xAt
  clean_types
  generalize (V0 (Proc.devRef .tc main_v1_12) : Vec Ideal S_ .i32) = w at ht ⊢
  subst ht
  pointwise []
  refine congrArg _ (congr (congrArg₂ ix3 (Fin.ext ?_) (Fin.ext ?_)) (Fin.ext ?_))
  · exact Nat.zero_add _
  · dsimp only
    revert t
    decide
  · exact Nat.zero_add _

/-- The projected input at a time. -/
def pIn (t : Fin 32) (b : Fin 4) : Row := proj (xAt (V0 (Proc.devRef .tc main_v1_0)) b t) (wAt (V0 (Proc.devRef .tc main_v1_1))) (bAt (V0 (Proc.devRef .tc main_v1_2)))
/-- The values at a time. -/
def pVal (t : Fin 32) (b : Fin 4) : Row := proj (xAt (V0 (Proc.devRef .tc main_v1_0)) b t) (wAt (V0 (Proc.devRef .tc main_v1_3))) (bAt (V0 (Proc.devRef .tc main_v1_4)))

variable (t : Fin 32) (ht : (V0 (Proc.devRef .tc main_v1_12) : Vec Ideal S_ .i32) = fun _ => BitVec.ofNat 32 t.val)
include ht

/-- The scores. -/
theorem v32_apply (b : Fin 4) (n : Fin 64) : (res_main_while0b_v32 V0 : Vec Ideal S4x64 .f32) (ix2 b n)
    = rScore (pIn V0 t b) (stAt V0 b).mem (stAt V0 b).us (stAt V0 b).ag n := by
  have h := v14_apply V0 t ht
  unfold rScore pIn stAt proj
  dsimp only
  simp only [← h]
  unfold res_main_while0b_v32 wAt bAt rowAt colAt
  clean_types
  generalize res_main_while0b_v14 V0 = v14
  pointwise []

/-- The values. -/
theorem v45_apply (b : Fin 4) (n : Fin 64) (m : Fin 512) : (res_main_while0b_v45 V0 : Vec Ideal S4x64x512 .f32) (ix3 b n m) = pVal V0 t b m := by
  have h := v14_apply V0 t ht
  unfold pVal proj
  simp only [← h]
  unfold res_main_while0b_v45 wAt bAt
  clean_types
  generalize res_main_while0b_v14 V0 = v14
  pointwise []

/-- The weights. -/
theorem v43_apply (b : Fin 4) (n : Fin 64) : (res_main_while0b_v43 V0 : Vec Ideal S4x64 .f32) (ix2 b n) = (stAt V0 b).w (pIn V0 t b) n := by
  have h := v32_apply V0 t ht b
  have hw : (stAt V0 b).w (pIn V0 t b) = wgt (fun n => (res_main_while0b_v32 V0 : Vec Ideal S4x64 .f32) (ix2 b n)) := congrArg wgt (funext fun n => (h n).symm)
  rw [hw]
  unfold wgt
  have hm : ∀ s : Fin 64 → EReal, top s = max (Ideal.ofBits .f32 0xFF800000#32) (top s) := fun s =>
    (max_eq_right (Finset.le_fold_max _ |>.2 (.inl le_rfl))).symm
  rw [hm]
  unfold top
  unfold res_main_while0b_v43 res_main_while0b_v39
  clean_types
  generalize res_main_while0b_v32 V0 = v32
  pointwise []

/-- The new rows, before their norms are divided out. -/
theorem v97_apply (b : Fin 4) (n : Fin 64) (m : Fin 512) : (res_main_while0b_v97 V0 : Vec Ideal S4x64x512 .f32) (ix3 b n m)
    = rNew (lG V0) (lU V0) (lR V0) (pVal V0 t b) ((stAt V0 b).mem n) ((stAt V0 b).w (pIn V0 t b) n) m := by
  rw [← v43_apply V0 t ht]
  have hv : pVal V0 t b = fun m => (res_main_while0b_v45 V0 : Vec Ideal S4x64x512 .f32) (ix3 b n m) := funext fun m => (v45_apply V0 t ht b n m).symm
  rw [hv]
  unfold rNew rCand rGate rLin lG lU lR linOf stAt rowAt wAt bAt
  unfold res_main_while0b_v97 res_main_while0b_v68 res_main_while0b_v46 res_main_while0b_v95 res_main_while0b_v82
  clean_types
  generalize res_main_while0b_v45 V0 = v45
  generalize res_main_while0b_v43 V0 = v43
  pointwise []

/-- One step. -/
theorem step_apply (b : Fin 4) : stAt (STEP V0) b = rStep (lG V0) (lU V0) (lR V0) (pIn V0 t b) (pVal V0 t b) (stAt V0 b) := by
  unfold rStep
  conv_lhs => unfold stAt
  rw [STEP_main_v1_13, STEP_main_v1_14, STEP_main_v1_15]
  refine congr (congr (congrArg RState.mk ?_) ?_) ?_
  · funext n m
    have h : rNew (lG V0) (lU V0) (lR V0) (pVal V0 t b) ((stAt V0 b).mem n) ((stAt V0 b).w (pIn V0 t b) n) = _ := funext fun m => (v97_apply V0 t ht b n m).symm
    rw [h]
    unfold rowAt rRow step_main_v1_13 id
    clean_types
    generalize res_main_while0b_v97 V0 = v97
    pointwise []
  · funext n
    rw [← v43_apply V0 t ht]
    unfold stAt colAt step_main_v1_14 res_main_while0b_v95 id
    clean_types
    generalize res_main_while0b_v43 V0 = v43
    pointwise []
  · funext n
    unfold stAt colAt step_main_v1_15 id
    clean_types
    pointwise []

end Cert.ReferenceIdeal.Value

end
-- ==== Proof.ReferenceRun.lean ====
module

public import proofs.«01_k».proof.Proof.Reference

/-! # The reference's 32 steps, batch by batch -/

@[expose] public section

set_option maxRecDepth 16384

noncomputable section

namespace Cert.ReferenceIdeal.Value

open Cert.ReferenceIdeal Idealize.ShloMosaic Idealize.ShloMosaic.TcCoe Idealize.SL.Sem Idealize.ShloMosaic.StableHlo
open Cert.Model

/-- A buffer no step changes holds after any number of steps what it held before. -/
theorem iter_keep (r : DevRef τ sig) (h : ∀ V : Valuation τ sig (Elt Ideal), STEP V r = V r) (V : Valuation τ sig (Elt Ideal)) (n : ℕ) :
    (STEP^[n] V) r = V r := by
  induction n with
  | zero => rfl
  | succ n ih => rw [Function.iterate_succ_apply', h, ih]

variable (V0 : Valuation τ sig (Elt Ideal))

/-- The time counts the steps. -/
theorem iter_time (h0 : (V0 (Proc.devRef .tc main_v1_12) : Vec Ideal S_ .i32) = fun _ => 0#32) (n : ℕ) :
    ((STEP^[n] V0) (Proc.devRef .tc main_v1_12) : Vec Ideal S_ .i32) = fun _ => BitVec.ofNat 32 n := by
  induction n with
  | zero => exact h0
  | succ n ih =>
    rw [Function.iterate_succ_apply', STEP_main_v1_12]
    unfold step_main_v1_12 id
    rw [ih]
    funext j
    show BitVec.ofNat 32 n + 1#32 = BitVec.ofNat 32 (n + 1)
    rw [BitVec.ofNat_add]

/-- The reference's state for batch `b` after `n` steps, from the loop's entry. -/
theorem iter_state (h0 : (V0 (Proc.devRef .tc main_v1_12) : Vec Ideal S_ .i32) = fun _ => 0#32) (b : Fin 4) (n : ℕ) (hn : n ≤ 32) :
    stAt (STEP^[n] V0) b = rAt (lG V0) (lU V0) (lR V0)
      (seqOf (xAt (V0 (Proc.devRef .tc main_v1_0)) b) (wAt (V0 (Proc.devRef .tc main_v1_1))) (bAt (V0 (Proc.devRef .tc main_v1_2))))
      (seqOf (xAt (V0 (Proc.devRef .tc main_v1_0)) b) (wAt (V0 (Proc.devRef .tc main_v1_3))) (bAt (V0 (Proc.devRef .tc main_v1_4)))) (stAt V0 b) n := by
  induction n with
  | zero => rfl
  | succ n ih =>
    have hlt : n < 32 := hn
    rw [Function.iterate_succ_apply', step_apply (STEP^[n] V0) ⟨n, hlt⟩ (iter_time V0 h0 n), ih (Nat.le_of_succ_le hn), rAt]
    have e : ∀ (x : Fin 32 → Fin 1024 → EReal) W b, seqOf x W b n = proj (x ⟨n, hlt⟩) W b := fun x W b => dif_pos hlt
    rw [e, e]
    unfold lG lU lR pIn pVal
    rw [iter_keep _ STEP_main_v1_0, iter_keep _ STEP_main_v1_1, iter_keep _ STEP_main_v1_2, iter_keep _ STEP_main_v1_3, iter_keep _ STEP_main_v1_4,
      iter_keep _ STEP_main_v1_5, iter_keep _ STEP_main_v1_6, iter_keep _ STEP_main_v1_7, iter_keep _ STEP_main_v1_8, iter_keep _ STEP_main_v1_9,
      iter_keep _ STEP_main_v1_10]

variable (m : (ℓ : Loc nD τ sig) → Buf (Elt Ideal) ℓ) (c : Dev nD)

/-- At the loop's entry the carried arrays are the arguments. -/
theorem entry_args :
    entryContents preI m c (Proc.devRef .tc main_v1_0) = m ((c.tc : Thread nD τ).loc main_arg0)
    ∧ entryContents preI m c (Proc.devRef .tc main_v1_1) = m ((c.tc : Thread nD τ).loc main_arg2)
    ∧ entryContents preI m c (Proc.devRef .tc main_v1_2) = m ((c.tc : Thread nD τ).loc main_arg3)
    ∧ entryContents preI m c (Proc.devRef .tc main_v1_3) = m ((c.tc : Thread nD τ).loc main_arg4)
    ∧ entryContents preI m c (Proc.devRef .tc main_v1_4) = m ((c.tc : Thread nD τ).loc main_arg5)
    ∧ entryContents preI m c (Proc.devRef .tc main_v1_5) = m ((c.tc : Thread nD τ).loc main_arg10)
    ∧ entryContents preI m c (Proc.devRef .tc main_v1_6) = m ((c.tc : Thread nD τ).loc main_arg11)
    ∧ entryContents preI m c (Proc.devRef .tc main_v1_7) = m ((c.tc : Thread nD τ).loc main_arg6)
    ∧ entryContents preI m c (Proc.devRef .tc main_v1_8) = m ((c.tc : Thread nD τ).loc main_arg7)
    ∧ entryContents preI m c (Proc.devRef .tc main_v1_9) = m ((c.tc : Thread nD τ).loc main_arg8)
    ∧ entryContents preI m c (Proc.devRef .tc main_v1_10) = m ((c.tc : Thread nD τ).loc main_arg9)
    ∧ entryContents preI m c (Proc.devRef .tc main_v1_13) = m ((c.tc : Thread nD τ).loc main_arg1) := by
  simp only [entryContents, preI, afterL_cons, afterL_nil]
  refine ⟨?_, ?_, ?_, ?_, ?_, ?_, ?_, ?_, ?_, ?_, ?_, ?_⟩ <;> (after_results; rfl)

/-- There the time is zero. -/
theorem entry_12 : (entryContents preI m c (Proc.devRef .tc main_v1_12) : Vec Ideal S_ .i32) = fun _ => 0#32 := by
  simp only [entryContents, preI, afterL_cons, afterL_nil]
  after_results
  rfl
/-- At the entry there is no usage. -/
theorem entry_14 (b : Fin 4) : colAt (entryContents preI m c (Proc.devRef .tc main_v1_14)) b = fun _ => 0 := by
  simp only [entryContents, preI, afterL_cons, afterL_nil]
  after_results
  funext n
  unfold colAt id
  clean_types
  pointwise []
/-- At the entry there is no age. -/
theorem entry_15 (b : Fin 4) : colAt (entryContents preI m c (Proc.devRef .tc main_v1_15)) b = fun _ => 0 := by
  simp only [entryContents, preI, afterL_cons, afterL_nil]
  after_results
  funext n
  unfold colAt id
  clean_types
  pointwise []

/-- The reference's result: the memory after 32 steps from the arguments. -/
theorem out_apply (b : Fin 4) (n : Fin 64) (k : Fin 512) :
    ((STEP^[32] (entryContents preI m c)) (Proc.devRef .tc main_v1_13) : Vec Ideal S4x64x512 .f32) (ix3 b n k)
      = (rAt (linOf (wAt (m ((c.tc : Thread nD τ).loc main_arg6))) (bAt (m ((c.tc : Thread nD τ).loc main_arg7))))
          (linOf (wAt (m ((c.tc : Thread nD τ).loc main_arg8))) (bAt (m ((c.tc : Thread nD τ).loc main_arg9))))
          (linOf (wAt (m ((c.tc : Thread nD τ).loc main_arg10))) (bAt (m ((c.tc : Thread nD τ).loc main_arg11))))
          (seqOf (xAt (m ((c.tc : Thread nD τ).loc main_arg0)) b) (wAt (m ((c.tc : Thread nD τ).loc main_arg2))) (bAt (m ((c.tc : Thread nD τ).loc main_arg3))))
          (seqOf (xAt (m ((c.tc : Thread nD τ).loc main_arg0)) b) (wAt (m ((c.tc : Thread nD τ).loc main_arg4))) (bAt (m ((c.tc : Thread nD τ).loc main_arg5))))
          (rInit (rowAt (m ((c.tc : Thread nD τ).loc main_arg1)) b)) 32).mem n k := by
  obtain ⟨e0, e1, e2, e3, e4, e5, e6, e7, e8, e9, e10, e13⟩ := entry_args m c
  have h := iter_state (entryContents preI m c) (entry_12 m c) b 32 le_rfl
  have hs : stAt (entryContents preI m c) b = rInit (rowAt (m ((c.tc : Thread nD τ).loc main_arg1)) b) := by
    unfold stAt
    rw [e13, entry_14, entry_15]
    rfl
  unfold lG lU lR at h
  rw [hs, e0, e1, e2, e3, e4, e5, e6, e7, e8, e9, e10] at h
  rw [← h]
  rfl

end Cert.ReferenceIdeal.Value

end
-- ==== Proof.Algebraic.lean ====
module

public import proofs.«01_k».proof.Defs
public import proofs.«01_k».proof.Proof.KernelRun
public import proofs.«01_k».proof.Proof.ReferenceRun

/-! # The kernel and the reference end with the same memory -/

@[expose] public section

set_option maxRecDepth 16384

noncomputable section

namespace Cert.Proof

open Idealize.ShloMosaic Idealize.ShloMosaic.TcCoe Idealize.SL.Sem
open Cert.Model

/-- A bias laid out as one row is read as the bias. -/
theorem bias_row (b : Vec Ideal Cert.KernelIdeal.S512 .f32) :
    Cert.KernelIdeal.Value.bOf (Cert.KernelIdeal.Value.rowOf b) = Cert.ReferenceIdeal.Value.bAt b := by
  funext m
  unfold Cert.KernelIdeal.Value.bOf Cert.KernelIdeal.Value.rowOf Cert.ReferenceIdeal.Value.bAt
  pointwise []

/-- From equal arguments, the kernel's result is the reference's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Value.STEP^[32] (StableHlo.entryContents Cert.ReferenceIdeal.Value.preI m' c)) (Proc.devRef .tc Cert.ReferenceIdeal.main_v1_13)
      = Cert.KernelIdeal.Value.result m c := by
  obtain ⟨h0, h1, h2, h3, h4, h5, h6, h7, h8, h9, h10, h11⟩ := h
  funext j
  idx_vars j
  refine (Cert.ReferenceIdeal.Value.out_apply m' c _ _ _).trans ?_
  rw [h0, h1, h2, h3, h4, h5, h6, h7, h8, h9, h10, h11]
  refine Eq.trans ?_ (Cert.KernelIdeal.Value.out_apply ..).symm
  unfold Cert.KernelIdeal.Value.rOf
  rw [bias_row, bias_row, bias_row, bias_row, bias_row]
  rfl

/-- The claim that the two programs end with the same result. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Value.result m c, ?_, ?_⟩
  · exact (θ_run _ _ _).mono (fun r hr c => ⟨(hr c).1.trans (Cert.KernelIdeal.Value.final m c), (hr c).2⟩) (Cert.KernelIdeal.Value.run_blocks m g)
  · exact (θ_run _ _ _).mono (fun r hr c => ⟨(hr c).1.trans (results_agree m m' c (h c)), (hr c).2⟩) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The five claims: the three frames, the ideal program's preservation, and the equality of the results. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run _ _ _).mono (fun r h => ⟨fun c => (h c).2, sem_eq_zero_of_no_sems rfl r.2⟩)
      (Cert.ReferenceIdeal.Value.run m ρ),
    IdealRules.named_const.statement _ _ .f32 _ _ rfl,
    algebraic⟩

end Cert.Proof

end
